-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e_16" .f32 0x3DB8AA3B#32 (((16 * (Real.log 2))⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 256]⟩ ⟨2, ![16384, 256]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![16384, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)

variable [Facts]

def fn {F : FTy → Type} [FloatOps F] (main_arg0 : FVec F S4096x256 .f32) (main_arg1 : FVec F S4096x256 .f32) (main_arg2 : FVec F S4096x256 .f32) : IVec S4096x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : IVec S4096x256 1 := andi main_v2 main_v5
  main_v6
-- ==== Pre_finite_qk_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x256 .f32) (main_arg1 : FVec F S16384x256 .f32) (main_arg2 : FVec F S16384x256 .f32) : IVec S16384x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : IVec S16384x256 1 := andi main_v2 main_v5
  main_v6
-- ==== Kernel.lean ====
abbrev S4096x256 : Shape := ⟨2, ![4096, 256]⟩
abbrev S3x4096x256 : Shape := ⟨3, ![3, 4096, 256]⟩
abbrev S4096x1 : Shape := ⟨2, ![4096, 1]⟩
abbrev S3x4 : Shape := ⟨2, ![3, 4]⟩
abbrev S_ : Shape := ⟨0, ![]⟩
abbrev S1x1 : Shape := ⟨2, ![1, 1]⟩
abbrev S1x1024x256 : Shape := ⟨3, ![1, 1024, 256]⟩
abbrev S1024x256 : Shape := ⟨2, ![1024, 256]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S3x4096x256, .bf16⟩
  | .local _ .vmem, ⟨8, _⟩ => ⟨S3x4096x256, .bf16⟩
  | .local _ .vmem, ⟨9, _⟩ => ⟨S4096x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_17 : BitVec 32 := 1#32
  let v29 : BitVec 32 := Scalar.muli v5 c1_i32_17
  let v30 : BitVec 32 := Scalar.addi c0_i32 v29
  v30.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v31 : BitVec 32 := Scalar.muli v7 c1_i32_19
  let v32 : BitVec 32 := Scalar.addi c0_i32_20 v31
  v32.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_26 : BitVec 32 := 1#32
  let v33 : BitVec 32 := Scalar.muli v7 c1_i32_26
  let v34 : BitVec 32 := Scalar.addi c0_i32_27 v33
  v34.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_37 : BitVec 32 := 1#32
  let v42 : BitVec 32 := Scalar.muli v7 c1_i32_37
  let v43 : BitVec 32 := Scalar.addi c0_i32_38 v42
  v43.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v51 : BitVec 32 := Scalar.muli v7 c1_i32_48
  let v52 : BitVec 32 := Scalar.addi c0_i32_49 v51
  v52.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_58 : BitVec 32 := 1#32
  let v60 : BitVec 32 := Scalar.muli v7 c1_i32_58
  let v61 : BitVec 32 := Scalar.addi c0_i32_59 v60
  v61.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v69 : BitVec 32 := Scalar.muli v7 c1_i32_69
  let v70 : BitVec 32 := Scalar.addi c0_i32_70 v69
  v70.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_79 : BitVec 32 := 1#32
  let v78 : BitVec 32 := Scalar.muli v7 c1_i32_79
  let v79 : BitVec 32 := Scalar.addi c0_i32_80 v78
  v79.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_89 : BitVec 32 := 1#32
  let v87 : BitVec 32 := Scalar.muli v7 c1_i32_89
  let v88 : BitVec 32 := Scalar.addi c0_i32_90 v87
  v88.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_99 : BitVec 32 := 1#32
  let v96 : BitVec 32 := Scalar.muli v7 c1_i32_99
  let v97 : BitVec 32 := Scalar.addi c0_i32_100 v96
  v97.toNat
@[reducible] def k0_t1_loop : Scf.Loop 32 :=
  let c0_i32_109 : BitVec 32 := 0#32
  let c2_i32_110 : BitVec 32 := 2#32
  let v107 : BitVec 32 := Scalar.addi c0_i32_109 c2_i32_110
  let c1_i32_111 : BitVec 32 := 1#32
  ⟨c0_i32_109, v107, c1_i32_111⟩
def k0_off1 (k0_t1 : Fin k0_t1_loop.trips) (c0_i32_957 : BitVec 32) : Fin 2 → Nat :=
  let c0_i32_109 : BitVec 32 := 0#32
  let c1_i32_111 : BitVec 32 := 1#32
  let arg14 : BitVec 32 := Scf.iv c0_i32_109 c1_i32_111 k0_t1
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off2 (k0_t1 : Fin k0_t1_loop.trips) (c0_i32_957 : BitVec 32) : Fin 2 → Nat :=
  let c0_i32_109 : BitVec 32 := 0#32
  let c1_i32_111 : BitVec 32 := 1#32
  let arg14 : BitVec 32 := Scf.iv c0_i32_109 c1_i32_111 k0_t1
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v661 : Index := Scalar.indexCast v650
  let c0_963 : Index := 0#32
  ![v661.toNat, 0]
def k0_dev11 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_141 : BitVec 32 := 1#32
  let v122 : BitVec 32 := Scalar.muli v7 c1_i32_141
  let v123 : BitVec 32 := Scalar.addi c0_i32_142 v122
  v123.toNat
def k0_dev12 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_153 : BitVec 32 := 1#32
  let v132 : BitVec 32 := Scalar.muli v7 c1_i32_153
  let v133 : BitVec 32 := Scalar.addi c0_i32_154 v132
  v133.toNat
@[reducible] def k0_t2_loop : Scf.Loop 32 :=
  let c0_i32_165 : BitVec 32 := 0#32
  let c2_i32_166 : BitVec 32 := 2#32
  let v146 : BitVec 32 := Scalar.addi c0_i32_165 c2_i32_166
  let c1_i32_167 : BitVec 32 := 1#32
  ⟨c0_i32_165, v146, c1_i32_167⟩
def k0_off3 (k0_t2 : Fin k0_t2_loop.trips) (c0_i32_957 : BitVec 32) : Fin 2 → Nat :=
  let c0_i32_165 : BitVec 32 := 0#32
  let c1_i32_167 : BitVec 32 := 1#32
  let arg14 : BitVec 32 := Scf.iv c0_i32_165 c1_i32_167 k0_t2
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off4 (k0_t2 : Fin k0_t2_loop.trips) (c0_i32_957 : BitVec 32) : Fin 2 → Nat :=
  let c0_i32_165 : BitVec 32 := 0#32
  let c1_i32_167 : BitVec 32 := 1#32
  let arg14 : BitVec 32 := Scf.iv c0_i32_165 c1_i32_167 k0_t2
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev13 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_197 : BitVec 32 := 1#32
  let v161 : BitVec 32 := Scalar.muli v7 c1_i32_197
  let v162 : BitVec 32 := Scalar.addi c0_i32_198 v161
  v162.toNat
def k0_dev14 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_209 : BitVec 32 := 1#32
  let v171 : BitVec 32 := Scalar.muli v7 c1_i32_209
  let v172 : BitVec 32 := Scalar.addi c0_i32_210 v171
  v172.toNat
@[reducible] def k0_t3_loop : Scf.Loop 32 :=
  let c0_i32_220 : BitVec 32 := 0#32
  let c2_i32_221 : BitVec 32 := 2#32
  let v185 : BitVec 32 := Scalar.addi c0_i32_220 c2_i32_221
  let c1_i32_222 : BitVec 32 := 1#32
  ⟨c0_i32_220, v185, c1_i32_222⟩
def k0_off5 (k0_t3 : Fin k0_t3_loop.trips) (c0_i32_957 : BitVec 32) : Fin 2 → Nat :=
  let c0_i32_220 : BitVec 32 := 0#32
  let c1_i32_222 : BitVec 32 := 1#32
  let arg14 : BitVec 32 := Scf.iv c0_i32_220 c1_i32_222 k0_t3
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off6 (k0_t3 : Fin k0_t3_loop.trips) (c0_i32_957 : BitVec 32) : Fin 2 → Nat :=
  let c0_i32_220 : BitVec 32 := 0#32
  let c1_i32_222 : BitVec 32 := 1#32
  let arg14 : BitVec 32 := Scf.iv c0_i32_220 c1_i32_222 k0_t3
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev15 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_252 : BitVec 32 := 1#32
  let v200 : BitVec 32 := Scalar.muli v7 c1_i32_252
  let v201 : BitVec 32 := Scalar.addi c0_i32_253 v200
  v201.toNat
def k0_dev16 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_264 : BitVec 32 := 1#32
  let v210 : BitVec 32 := Scalar.muli v7 c1_i32_264
  let v211 : BitVec 32 := Scalar.addi c0_i32_265 v210
  v211.toNat
@[reducible] def k0_t4_loop : Scf.Loop 32 :=
  let c0_i32_275 : BitVec 32 := 0#32
  let c2_i32_276 : BitVec 32 := 2#32
  let v224 : BitVec 32 := Scalar.addi c0_i32_275 c2_i32_276
  let c1_i32_277 : BitVec 32 := 1#32
  ⟨c0_i32_275, v224, c1_i32_277⟩
def k0_off7 (k0_t4 : Fin k0_t4_loop.trips) (c0_i32_957 : BitVec 32) : Fin 2 → Nat :=
  let c0_i32_275 : BitVec 32 := 0#32
  let c1_i32_277 : BitVec 32 := 1#32
  let arg14 : BitVec 32 := Scf.iv c0_i32_275 c1_i32_277 k0_t4
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off8 (k0_t4 : Fin k0_t4_loop.trips) (c0_i32_957 : BitVec 32) : Fin 2 → Nat :=
  let c0_i32_275 : BitVec 32 := 0#32
  let c1_i32_277 : BitVec 32 := 1#32
  let arg14 : BitVec 32 := Scf.iv c0_i32_275 c1_i32_277 k0_t4
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev17 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_307 : BitVec 32 := 1#32
  let v239 : BitVec 32 := Scalar.muli v7 c1_i32_307
  let v240 : BitVec 32 := Scalar.addi c0_i32_308 v239
  v240.toNat
def k0_dev18 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_319 : BitVec 32 := 1#32
  let v249 : BitVec 32 := Scalar.muli v7 c1_i32_319
  let v250 : BitVec 32 := Scalar.addi c0_i32_320 v249
  v250.toNat
@[reducible] def k0_t5_loop : Scf.Loop 32 :=
  let c0_i32_330 : BitVec 32 := 0#32
  let c2_i32_331 : BitVec 32 := 2#32
  let v263 : BitVec 32 := Scalar.addi c0_i32_330 c2_i32_331
  let c1_i32_332 : BitVec 32 := 1#32
  ⟨c0_i32_330, v263, c1_i32_332⟩
def k0_off9 (k0_t5 : Fin k0_t5_loop.trips) (c0_i32_957 : BitVec 32) : Fin 2 → Nat :=
  let c0_i32_330 : BitVec 32 := 0#32
  let c1_i32_332 : BitVec 32 := 1#32
  let arg14 : BitVec 32 := Scf.iv c0_i32_330 c1_i32_332 k0_t5
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off10 (k0_t5 : Fin k0_t5_loop.trips) (c0_i32_957 : BitVec 32) : Fin 2 → Nat :=
  let c0_i32_330 : BitVec 32 := 0#32
  let c1_i32_332 : BitVec 32 := 1#32
  let arg14 : BitVec 32 := Scf.iv c0_i32_330 c1_i32_332 k0_t5
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev19 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_364 : BitVec 32 := 1#32
  let v280 : BitVec 32 := Scalar.muli v7 c1_i32_364
  let v281 : BitVec 32 := Scalar.addi c0_i32_365 v280
  v281.toNat
def k0_dev20 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_376 : BitVec 32 := 1#32
  let v290 : BitVec 32 := Scalar.muli v7 c1_i32_376
  let v291 : BitVec 32 := Scalar.addi c0_i32_377 v290
  v291.toNat
@[reducible] def k0_t6_loop : Scf.Loop 32 :=
  let c0_i32_387 : BitVec 32 := 0#32
  let c2_i32_388 : BitVec 32 := 2#32
  let v304 : BitVec 32 := Scalar.addi c0_i32_387 c2_i32_388
  let c1_i32_389 : BitVec 32 := 1#32
  ⟨c0_i32_387, v304, c1_i32_389⟩
def k0_off11 (k0_t6 : Fin k0_t6_loop.trips) (c0_i32_957 : BitVec 32) : Fin 2 → Nat :=
  let c0_i32_387 : BitVec 32 := 0#32
  let c1_i32_389 : BitVec 32 := 1#32
  let arg14 : BitVec 32 := Scf.iv c0_i32_387 c1_i32_389 k0_t6
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off12 (k0_t6 : Fin k0_t6_loop.trips) (c0_i32_957 : BitVec 32) : Fin 2 → Nat :=
  let c0_i32_387 : BitVec 32 := 0#32
  let c1_i32_389 : BitVec 32 := 1#32
  let arg14 : BitVec 32 := Scf.iv c0_i32_387 c1_i32_389 k0_t6
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev21 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_421 : BitVec 32 := 1#32
  let v321 : BitVec 32 := Scalar.muli v7 c1_i32_421
  let v322 : BitVec 32 := Scalar.addi c0_i32_422 v321
  v322.toNat
def k0_dev22 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_433 : BitVec 32 := 1#32
  let v331 : BitVec 32 := Scalar.muli v7 c1_i32_433
  let v332 : BitVec 32 := Scalar.addi c0_i32_434 v331
  v332.toNat
@[reducible] def k0_t7_loop : Scf.Loop 32 :=
  let c0_i32_445 : BitVec 32 := 0#32
  let c2_i32_446 : BitVec 32 := 2#32
  let v345 : BitVec 32 := Scalar.addi c0_i32_445 c2_i32_446
  let c1_i32_447 : BitVec 32 := 1#32
  ⟨c0_i32_445, v345, c1_i32_447⟩
def k0_off13 (k0_t7 : Fin k0_t7_loop.trips) (c0_i32_957 : BitVec 32) : Fin 2 → Nat :=
  let c0_i32_445 : BitVec 32 := 0#32
  let c1_i32_447 : BitVec 32 := 1#32
  let arg14 : BitVec 32 := Scf.iv c0_i32_445 c1_i32_447 k0_t7
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off14 (k0_t7 : Fin k0_t7_loop.trips) (c0_i32_957 : BitVec 32) : Fin 2 → Nat :=
  let c0_i32_445 : BitVec 32 := 0#32
  let c1_i32_447 : BitVec 32 := 1#32
  let arg14 : BitVec 32 := Scf.iv c0_i32_445 c1_i32_447 k0_t7
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev23 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_479 : BitVec 32 := 1#32
  let v362 : BitVec 32 := Scalar.muli v7 c1_i32_479
  let v363 : BitVec 32 := Scalar.addi c0_i32_480 v362
  v363.toNat
def k0_dev24 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_491 : BitVec 32 := 1#32
  let v372 : BitVec 32 := Scalar.muli v7 c1_i32_491
  let v373 : BitVec 32 := Scalar.addi c0_i32_492 v372
  v373.toNat
@[reducible] def k0_t8_loop : Scf.Loop 32 :=
  let c0_i32_503 : BitVec 32 := 0#32
  let c2_i32_504 : BitVec 32 := 2#32
  let v386 : BitVec 32 := Scalar.addi c0_i32_503 c2_i32_504
  let c1_i32_505 : BitVec 32 := 1#32
  ⟨c0_i32_503, v386, c1_i32_505⟩
def k0_off15 (k0_t8 : Fin k0_t8_loop.trips) (c0_i32_957 : BitVec 32) : Fin 2 → Nat :=
  let c0_i32_503 : BitVec 32 := 0#32
  let c1_i32_505 : BitVec 32 := 1#32
  let arg14 : BitVec 32 := Scf.iv c0_i32_503 c1_i32_505 k0_t8
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off16 (k0_t8 : Fin k0_t8_loop.trips) (c0_i32_957 : BitVec 32) : Fin 2 → Nat :=
  let c0_i32_503 : BitVec 32 := 0#32
  let c1_i32_505 : BitVec 32 := 1#32
  let arg14 : BitVec 32 := Scf.iv c0_i32_503 c1_i32_505 k0_t8
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
def k0_dev25 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_537 : BitVec 32 := 1#32
  let v403 : BitVec 32 := Scalar.muli v7 c1_i32_537
  let v404 : BitVec 32 := Scalar.addi c0_i32_538 v403
  v404.toNat
def k0_dev26 (d0 : Dev nD) : Nat :=
  let c0_i32_550 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_549 : BitVec 32 := 1#32
  let v413 : BitVec 32 := Scalar.muli v7 c1_i32_549
  let v414 : BitVec 32 := Scalar.addi c0_i32_550 v413
  v414.toNat
@[reducible] def k0_t9_loop : Scf.Loop 32 :=
  let c0_i32_561 : BitVec 32 := 0#32
  let c2_i32_562 : BitVec 32 := 2#32
  let v427 : BitVec 32 := Scalar.addi c0_i32_561 c2_i32_562
  let c1_i32_563 : BitVec 32 := 1#32
  ⟨c0_i32_561, v427, c1_i32_563⟩
def k0_off17 (k0_t9 : Fin k0_t9_loop.trips) (c0_i32_957 : BitVec 32) : Fin 2 → Nat :=
  let c0_i32_561 : BitVec 32 := 0#32
  let c1_i32_563 : BitVec 32 := 1#32
  let arg14 : BitVec 32 := Scf.iv c0_i32_561 c1_i32_563 k0_t9
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off18 (k0_t9 : Fin k0_t9_loop.trips) (c0_i32_957 : BitVec 32) : Fin 2 → Nat :=
  let c0_i32_561 : BitVec 32 := 0#32
  let c1_i32_563 : BitVec 32 := 1#32
  let arg14 : BitVec 32 := Scf.iv c0_i32_561 c1_i32_563 k0_t9
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
@[reducible] def k0_t10_loop : Scf.Loop 32 :=
  let c0_i32_594 : BitVec 32 := 0#32
  let c2_i32_595 : BitVec 32 := 2#32
  let v448 : BitVec 32 := Scalar.addi c0_i32_594 c2_i32_595
  let c1_i32_596 : BitVec 32 := 1#32
  ⟨c0_i32_594, v448, c1_i32_596⟩
def k0_off19 (k0_t10 : Fin k0_t10_loop.trips) (c0_i32_957 : BitVec 32) : Fin 2 → Nat :=
  let c0_i32_594 : BitVec 32 := 0#32
  let c1_i32_596 : BitVec 32 := 1#32
  let arg14 : BitVec 32 := Scf.iv c0_i32_594 c1_i32_596 k0_t10
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off20 (k0_t10 : Fin k0_t10_loop.trips) (c0_i32_957 : BitVec 32) : Fin 2 → Nat :=
  let c0_i32_594 : BitVec 32 := 0#32
  let c1_i32_596 : BitVec 32 := 1#32
  let arg14 : BitVec 32 := Scf.iv c0_i32_594 c1_i32_596 k0_t10
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
@[reducible] def k0_t11_loop : Scf.Loop 32 :=
  let c0_i32_628 : BitVec 32 := 0#32
  let c2_i32_629 : BitVec 32 := 2#32
  let v469 : BitVec 32 := Scalar.addi c0_i32_628 c2_i32_629
  let c1_i32_630 : BitVec 32 := 1#32
  ⟨c0_i32_628, v469, c1_i32_630⟩
def k0_off21 (k0_t11 : Fin k0_t11_loop.trips) (c0_i32_957 : BitVec 32) : Fin 2 → Nat :=
  let c0_i32_628 : BitVec 32 := 0#32
  let c1_i32_630 : BitVec 32 := 1#32
  let arg14 : BitVec 32 := Scf.iv c0_i32_628 c1_i32_630 k0_t11
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off22 (k0_t11 : Fin k0_t11_loop.trips) (c0_i32_957 : BitVec 32) : Fin 2 → Nat :=
  let c0_i32_628 : BitVec 32 := 0#32
  let c1_i32_630 : BitVec 32 := 1#32
  let arg14 : BitVec 32 := Scf.iv c0_i32_628 c1_i32_630 k0_t11
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
@[reducible] def k0_t12_loop : Scf.Loop 32 :=
  let c0_i32_662 : BitVec 32 := 0#32
  let c2_i32_663 : BitVec 32 := 2#32
  let v490 : BitVec 32 := Scalar.addi c0_i32_662 c2_i32_663
  let c1_i32_664 : BitVec 32 := 1#32
  ⟨c0_i32_662, v490, c1_i32_664⟩
def k0_off23 (k0_t12 : Fin k0_t12_loop.trips) (c0_i32_957 : BitVec 32) : Fin 2 → Nat :=
  let c0_i32_662 : BitVec 32 := 0#32
  let c1_i32_664 : BitVec 32 := 1#32
  let arg14 : BitVec 32 := Scf.iv c0_i32_662 c1_i32_664 k0_t12
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off24 (k0_t12 : Fin k0_t12_loop.trips) (c0_i32_957 : BitVec 32) : Fin 2 → Nat :=
  let c0_i32_662 : BitVec 32 := 0#32
  let c1_i32_664 : BitVec 32 := 1#32
  let arg14 : BitVec 32 := Scf.iv c0_i32_662 c1_i32_664 k0_t12
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
@[reducible] def k0_t13_loop : Scf.Loop 32 :=
  let c0_i32_696 : BitVec 32 := 0#32
  let c2_i32_697 : BitVec 32 := 2#32
  let v511 : BitVec 32 := Scalar.addi c0_i32_696 c2_i32_697
  let c1_i32_698 : BitVec 32 := 1#32
  ⟨c0_i32_696, v511, c1_i32_698⟩
def k0_off25 (k0_t13 : Fin k0_t13_loop.trips) (c0_i32_957 : BitVec 32) : Fin 2 → Nat :=
  let c0_i32_696 : BitVec 32 := 0#32
  let c1_i32_698 : BitVec 32 := 1#32
  let arg14 : BitVec 32 := Scf.iv c0_i32_696 c1_i32_698 k0_t13
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v651 : Index := Scalar.indexCast v650
  let c0_958 : Index := 0#32
  ![v651.toNat, 0]
def k0_off26 (k0_t13 : Fin k0_t13_loop.trips) (c0_i32_957 : BitVec 32) : Fin 2 → Nat :=
  let c0_i32_696 : BitVec 32 := 0#32
  let c1_i32_698 : BitVec 32 := 1#32
  let arg14 : BitVec 32 := Scf.iv c0_i32_696 c1_i32_698 k0_t13
  let c4_i32_956 : BitVec 32 := 4#32
  let v648 : BitVec 32 := Scalar.muli arg14 c4_i32_956
  let v649 : BitVec 32 := Scalar.addi v648 c0_i32_957
  let c512_i32 : BitVec 32 := 512#32
  let v650 : BitVec 32 := Scalar.muli v649 c512_i32
  let v659 : Index := Scalar.indexCast v650
  let c0_962 : Index := 0#32
  ![v659.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "log2e_16" => some (((16 * (Real.log 2))⁻¹ : ℝ) : EReal)
  | _ => none
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S256x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x16384, .f32⟩
  | .hbm, ⟨20, _⟩ => ⟨S16384x16384, .f32⟩
  | .hbm, ⟨21, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Program.lean ====
/-
  The kernel body in a tidy form: the twelve transfers of a device's ring are one
  transfer at a hop `j : Fin 12` (round `j / 4`, chunk `j % 4`), of the keys or of the
  values, and the body is a prologue, twelve phases and an epilogue over them.
-/
module

public import proofs.«01_k».proof.Proof.Gen.KernelIdeal
public import proofs.«01_k».proof.Proof.Gen.KernelIdeal.Skeleton
public import proofs.«01_k».proof.Proof.Gen.KernelIdeal.Points

@[expose] public section

set_option maxRecDepth 65536

noncomputable section

namespace Cert.KernelIdeal.Ring

open Idealize.ShloMosaic Idealize.ShloMosaic.TcCoe
open Idealize.SL Idealize.SL.Sem
open Cert.KernelIdeal.Gen

variable {F : FTy → Type} [FloatOps F] [Named F]

/-! ## Buffers and semaphores -/

abbrev qM : Memref sig .tc .vmem S4096x256 .f32 := Memref.whole cc0_stg0_0
abbrev kM : Memref sig .tc .vmem S4096x256 .f32 := Memref.whole cc0_stg1_0
abbrev vM : Memref sig .tc .vmem S4096x256 .f32 := Memref.whole cc0_stg2_0
abbrev oM : Memref sig .tc .vmem S4096x256 .f32 := Memref.whole cc0_stg3_0
abbrev qbM : Memref sig .tc .vmem S4096x256 .bf16 := Memref.whole cc0_scratch0
abbrev lM : Memref sig .tc .vmem S4096x1 .f32 := Memref.whole cc0_scratch5

/-- The device's own keys (`true`) or values (`false`), rounded. -/
def ownM (kv : Bool) : Memref sig .tc .vmem S4096x256 .bf16 :=
  match kv with | true => Memref.whole cc0_scratch1 | false => Memref.whole cc0_scratch2

/-- The landing buffer of the keys or of the values. -/
def commM (kv : Bool) : Memref sig .tc .vmem S3x4096x256 .bf16 :=
  match kv with | true => Memref.whole cc0_scratch3 | false => Memref.whole cc0_scratch4

theorem own_whole (kv : Bool) : (ownM kv).IsWhole := by cases kv <;> exact Memref.isWhole_whole _
theorem comm_whole (kv : Bool) : (commM kv).IsWhole := by cases kv <;> exact Memref.isWhole_whole _

/-- Where hop `j` lands in its landing buffer. -/
abbrev slotOff (j : Fin 12) : Fin 3 → Nat := ![j.val / 4, 1024 * (j.val % 4), 0]
theorem slotOff_inb (j : Fin 12) : ∀ a, slotOff j a + S1x1024x256.size a ≤ S3x4096x256.size a := by
  revert j; decide
abbrev slotR (j : Fin 12) : Rect S3x4096x256 := Rect.unit (s := S3x4096x256) (slotOff j) S1x1024x256.size (slotOff_inb j)

/-- Chunk `j % 4` of the device's own rows. -/
abbrev ownOff (j : Fin 12) : Fin 2 → Nat := ![1024 * (j.val % 4), 0]
theorem ownOff_inb (j : Fin 12) : ∀ a, ownOff j a + S1024x256.size a ≤ S4096x256.size a := by
  revert j; decide
abbrev ownR (j : Fin 12) : Rect S4096x256 := Rect.unit (s := S4096x256) (ownOff j) S1024x256.size (ownOff_inb j)

/-- Where hop `j` lands. -/
abbrev slotM (kv : Bool) (j : Fin 12) : Memref sig .tc .vmem S1024x256 .bf16 :=
  ((commM kv).slice (slotR j) (fun _ => rfl)).squeeze S1024x256 squeezes_S1x1024x256_S1024x256
abbrev chunkM (kv : Bool) (j : Fin 12) : Memref sig .tc .vmem S1024x256 .bf16 :=
  (ownM kv).slice (ownR j) (fun _ => rfl)

/-- The hop before `j` on the same chunk. -/
abbrev before (j : Fin 12) : Fin 12 := ⟨j.val - 4, Nat.lt_of_le_of_lt (Nat.sub_le _ _) j.isLt⟩

/-- What hop `j` copies: the device's own chunk, later the chunk that landed a round before. -/
def srcM (kv : Bool) (j : Fin 12) : Memref sig .tc .vmem S1024x256 .bf16 :=
  if j.val < 4 then chunkM kv j else slotM kv (before j)

theorem wholeWords_slot (j : Fin 12) : (slotR j).WholeWords (EltTy.packing .bf16) := by
  fin_cases j
  · exact wordsbf16_S3x4096x256_S1x1024x256_0_0_0
  · exact wordsbf16_S3x4096x256_S1x1024x256_0_1024_0
  · exact wordsbf16_S3x4096x256_S1x1024x256_0_2048_0
  · exact wordsbf16_S3x4096x256_S1x1024x256_0_3072_0
  · exact wordsbf16_S3x4096x256_S1x1024x256_1_0_0
  · exact wordsbf16_S3x4096x256_S1x1024x256_1_1024_0
  · exact wordsbf16_S3x4096x256_S1x1024x256_1_2048_0
  · exact wordsbf16_S3x4096x256_S1x1024x256_1_3072_0
  · exact wordsbf16_S3x4096x256_S1x1024x256_2_0_0
  · exact wordsbf16_S3x4096x256_S1x1024x256_2_1024_0
  · exact wordsbf16_S3x4096x256_S1x1024x256_2_2048_0
  · exact wordsbf16_S3x4096x256_S1x1024x256_2_3072_0

theorem wholeWords_own (j : Fin 12) : (ownR j).WholeWords (EltTy.packing .bf16) := by
  fin_cases j
  all_goals first
    | exact wordsbf16_S4096x256_S1024x256_0_0 | exact wordsbf16_S4096x256_S1024x256_1024_0
    | exact wordsbf16_S4096x256_S1024x256_2048_0 | exact wordsbf16_S4096x256_S1024x256_3072_0

theorem slot_exact (kv : Bool) (j : Fin 12) : (slotM kv j).view.WordExact :=
  ((comm_whole kv).wordExact_slice rfl _ (wholeWords_slot j)).reshape _ _
theorem src_exact (kv : Bool) (j : Fin 12) : (srcM kv j).view.WordExact := by
  unfold srcM; split
  · exact (own_whole kv).wordExact_slice rfl _ (wholeWords_own j)
  · exact slot_exact kv _

/-- The semaphore a device's own copy at hop `j` completes on. -/
def sendS (kv : Bool) (j : Fin 12) : DmaSem sig := match kv with
  | true => (⟨4 + j.val, by omega⟩ : Fin 52) | false => (⟨28 + j.val, by omega⟩ : Fin 52)
/-- The semaphore the copy into a device's slot `j` completes on. -/
def recvS (kv : Bool) (j : Fin 12) : DmaSem sig := match kv with
  | true => (⟨16 + j.val, by omega⟩ : Fin 52) | false => (⟨40 + j.val, by omega⟩ : Fin 52)
abbrev barS : Sem sig := sig.barrier 0 rfl

/-! ## The body's steps -/

/-- A device's program. -/
abbrev P (F : FTy → Type) [FloatOps F] [Named F] (β : Type := PUnit) := Prog (TpuEff nD τ sig (Elt F) Λ₀ .tc) β
variable {β : Type}

/-- The copy of hop `j` to the right-hand device. -/
def send (d : Dev nD) (kv : Bool) (j : Fin 12) (K : P F β) : P F β :=
  .op (.enqueueDma (srcM kv j) (.remote (Dev.tc (⟨k0_dev2 d, k0_dev2_lt d⟩ : Dev nD)) (slotM kv j) (.dma (sendS kv j))) (.dma (recvS kv j))
    (src_exact kv j) (slot_exact kv j) ⟨⟨rfl, Or.inl rfl⟩, trivial⟩) fun _ => K

/-- The wait for the copy into slot `j`. -/
def recvWait (kv : Bool) (j : Fin 12) (K : P F β) : P F β :=
  .op (.waitDma2 (recvS kv j) (srcM kv j) (slotM kv j) (src_exact kv j) (slot_exact kv j)) fun _ => K

/-- The wait for the device's own copy at hop `j`. -/
def sendWait (kv : Bool) (j : Fin 12) (K : P F β) : P F β :=
  .op (.waitDma2 (sendS kv j) (slotM kv j) (srcM kv j) (slot_exact kv j) (src_exact kv j)) fun _ => K

/-- The load of slot `j`, its first axis dropped. -/
def slotLoad (kv : Bool) (j : Fin 12) (K : FVec F S1024x256 .bf16 → P F β) : P F β :=
  .op (.load (commM kv) (slotR j).toLoadRect (View.loadsAt_vmem h_S1x1024x256))
    fun (x : Vec F S1x1024x256 .bf16) => K (shapeCast S1024x256 (x : FVec F S1x1024x256 .bf16) shapeCasts_S1x1024x256_S1024x256)

/-- The whole of a device's block of rows. -/
abbrev allR : Rect S4096x256 := Rect.unit (s := S4096x256) ![0, 0] S4096x256.size inb_S4096x256_S4096x256_0_0

/-- The load of the device's own keys or values. -/
def ownLoad (kv : Bool) (K : FVec F S4096x256 .bf16 → P F β) : P F β :=
  .op (.load (ownM kv) allR.toLoadRect (View.loadsAt_vmem h_S4096x256)) K

/-- A rounded copy of an input block. -/
def roundInto (src : Memref sig .tc .vmem S4096x256 .f32) (dst : Memref sig .tc .vmem S4096x256 .bf16) (hdst : dst.IsWhole)
    (f : FVec F S4096x256 .f32 → FVec F S4096x256 .bf16) (K : P F) : P F :=
  .op (.load src allR.toLoadRect (View.loadsAt_vmem h_S4096x256)) fun (x : Vec F S4096x256 .f32) =>
  .op (.load dst allR.toLoadRect (View.loadsAt_vmem h_S4096x256)) fun _ =>
  .op (.store dst allR (f x) Finset.univ
    (View.stores_vmem h_S4096x256 (hdst.storeExact_slice rfl _ packedbf16_S4096x256_S4096x256_0_0) (fun _ => rfl)) (.inl rfl)) fun _ => K

/-! ## One tile of 512 query rows -/

/-- The weights of a tile against all 4096 own keys. -/
def weights4096 (a : FVec F S4096x256 .bf16) (q : FVec F S512x256 .bf16) : FVec F S512x4096 .f32 :=
  exp2 (matmul dot_S512x256_S4096x256_S512x4096_1_1_0_0_n_n none q a (constant S512x4096 .f32 0x00000000#32))

/-- The first sum of weighted values of a tile. -/
def firstOut (a b : FVec F S4096x256 .bf16) (q : FVec F S512x256 .bf16) : FVec F S512x256 .f32 :=
  matmul dot_S512x4096_S4096x256_S512x256_1_0_0_1_n_n none (truncf .bf16 (weights4096 a q) bitsLt_bf16_f32) b (constant S512x256 .f32 0x00000000#32)

/-- The first sum of weights of a tile. -/
def firstSum (a : FVec F S4096x256 .bf16) (q : FVec F S512x256 .bf16) : FVec F S512x1 .f32 :=
  shapeCast S512x1 (shapeCast S512x1 (multiReduction .add [1] S512 (weights4096 a q) 0x00000000#32 reduces_S512x4096_S512 (.inl rfl) rfl) shapeCasts_S512_S512x1) shapeCasts_S512x1_S512x1

/-- The weights of a tile against a chunk of 1024 keys. -/
def weights1024 (a : FVec F S1024x256 .bf16) (q : FVec F S512x256 .bf16) : FVec F S512x1024 .f32 :=
  exp2 (matmul dot_S512x256_S1024x256_S512x1024_1_1_0_0_n_n none q a (constant S512x1024 .f32 0x00000000#32))

/-- The sum of weighted values of a tile, a chunk more. -/
def nextOut (a b : FVec F S1024x256 .bf16) (q : FVec F S512x256 .bf16) (o : FVec F S512x256 .f32) : FVec F S512x256 .f32 :=
  addf (shapeCast S512x256 o shapeCasts_S512x256_S512x256)
    (matmul dot_S512x1024_S1024x256_S512x256_1_0_0_1_n_n none (truncf .bf16 (weights1024 a q) bitsLt_bf16_f32) b (constant S512x256 .f32 0x00000000#32))

/-- The sum of weights of a tile, a chunk more. -/
def nextSum (a : FVec F S1024x256 .bf16) (q : FVec F S512x256 .bf16) (l : FVec F S512x1 .f32) : FVec F S512x1 .f32 :=
  addf l (shapeCast S512x1 (multiReduction .add [1] S512 (weights1024 a q) 0x00000000#32 reduces_S512x1024_S512 (.inl rfl) rfl) shapeCasts_S512_S512x1)

/-- The result of a tile at the last chunk: the sum of weighted values by the sum of weights. -/
def lastOut (a b : FVec F S1024x256 .bf16) (q : FVec F S512x256 .bf16) (o : FVec F S512x256 .f32) (l : FVec F S512x1 .f32) : FVec F S512x256 .f32 :=
  divf (nextOut a b q o) (broadcastTo S512x256 (nextSum a q l) broadcasts_S512x1_S512x256)

/-- The two trips of a loop over tiles, four tiles each. -/
abbrev Trip : Type := Fin k0_t2_loop.trips

abbrev rowR (t : Trip) (u : Fin 4) : Rect S4096x256 :=
  Rect.unit (s := S4096x256) (k0_off3 t (BitVec.ofNat 32 u.val)) S512x256.size (k0_off3_inb t u)
abbrev sumR (t : Trip) (u : Fin 4) : Rect S4096x1 :=
  Rect.unit (s := S4096x1) (k0_off4 t (BitVec.ofNat 32 u.val)) S512x1.size (k0_off4_inb t u)

def qTile (t : Trip) (u : Fin 4) (K : FVec F S512x256 .bf16 → P F) : P F :=
  .op (.load qbM (rowR t u).toLoadRect (View.loadsAt_vmem h_S512x256)) K
def outTile (t : Trip) (u : Fin 4) (K : FVec F S512x256 .f32 → P F) : P F :=
  .op (.load oM (rowR t u).toLoadRect (View.loadsAt_vmem h_S512x256)) K
def sumTile (t : Trip) (u : Fin 4) (K : FVec F S512x1 .f32 → P F) : P F :=
  .op (.load lM (sumR t u).toLoadRect (View.loadsAt_vmem h_S512x1)) K
def outStore (t : Trip) (u : Fin 4) (x : FVec F S512x256 .f32) (K : P F) : P F :=
  outTile t u fun _ => .op (.store oM (rowR t u) x Finset.univ (View.stores_vmem_bits_univ h_S512x256 rfl) (.inl rfl)) fun _ => K
def sumStore (t : Trip) (u : Fin 4) (x : FVec F S512x1 .f32) (K : P F) : P F :=
  sumTile t u fun _ => .op (.store lM (sumR t u) x Finset.univ (View.stores_vmem_bits_univ h_S512x1 rfl) (.inl rfl)) fun _ => K

def firstTile (a b : FVec F S4096x256 .bf16) (t : Trip) (u : Fin 4) (K : P F) : P F :=
  qTile t u fun q => outStore t u (firstOut a b q) (sumStore t u (firstSum a q) K)
def nextTile (a b : FVec F S1024x256 .bf16) (t : Trip) (u : Fin 4) (K : P F) : P F :=
  qTile t u fun q => sumTile t u fun l => outTile t u fun o =>
    outStore t u (nextOut a b q o) (sumStore t u (shapeCast S512x1 (nextSum a q l) shapeCasts_S512x1_S512x1) K)
def lastTile (a b : FVec F S1024x256 .bf16) (t : Trip) (u : Fin 4) (K : P F) : P F :=
  qTile t u fun q => sumTile t u fun l => outTile t u fun o => outStore t u (lastOut a b q o l) K

/-- A loop over the eight tiles. -/
def overTiles (tile : Trip → Fin 4 → P F → P F) : P F :=
  Scf.Loop.for k0_t2_loop k0_t2_ok ⟨⟩ fun t _ => tile t 0 <| tile t 1 <| tile t 2 <| tile t 3 <| .ret ⟨⟩

/-! ## The phases -/

/-- The phase of hop `j`: its chunk arrives, is passed on unless this is the last round, and
    enters the sums. -/
def phase (d : Dev nD) (j : Fin 12) (K : P F) : P F :=
  recvWait true j <| recvWait false j <|
  (fun K => if h : j.val < 8 then send d true ⟨j.val + 4, by omega⟩ (send d false ⟨j.val + 4, by omega⟩ K) else K) <|
  slotLoad true j fun a => slotLoad false j fun b =>
  overTiles (if j.val = 11 then lastTile a b else nextTile a b) >>= fun _ => K

/-- The end of hop `j`: the device's own copies are complete. -/
def finish (j : Fin 12) (K : P F) : P F := sendWait true j <| sendWait false j K

/-- The hops in order. -/
abbrev hops : List (Fin 12) := [0, 1, 2, 3, 4, 5, 6, 7, 8, 9, 10, 11]

/-- The device's own rows: rounded, announced, sent, and entered in the sums. -/
def opening (K : Dev nD → P F) : P F :=
  .op .deviceId fun d =>
  roundInto qM qbM (Memref.isWhole_whole _) k0_pay138 <| roundInto kM (ownM true) (own_whole true) k0_pay139 <|
  roundInto vM (ownM false) (own_whole false) k0_pay140 <|
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32 >>= fun _ =>
  send d true 0 <| send d false 0 <| send d true 1 <| send d false 1 <|
  send d true 2 <| send d false 2 <| send d true 3 <| send d false 3 <|
  ownLoad true fun a => ownLoad false fun b =>
  overTiles (firstTile a b) >>= fun _ => K d

/-- The kernel body. -/
def tidy : P F := opening fun d => hops.foldr (phase d) (hops.foldr finish (.ret ⟨⟩))

/-- A part of the body, on the buffers the kernel is called with. -/
abbrev app {β : Sort _} (f : (arg0 : Memref sig .tc .vmem S4096x256 .f32) → arg0.IsWhole → (arg1 : Memref sig .tc .vmem S4096x256 .f32) → arg1.IsWhole →
    (arg2 : Memref sig .tc .vmem S4096x256 .f32) → arg2.IsWhole → (arg3 : Memref sig .tc .vmem S4096x256 .f32) → arg3.IsWhole →
    (arg4 : Memref sig .tc .vmem S4096x256 .bf16) → arg4.IsWhole → (arg5 : Memref sig .tc .vmem S4096x256 .bf16) → arg5.IsWhole →
    (arg6 : Memref sig .tc .vmem S4096x256 .bf16) → arg6.IsWhole → (arg7 : Memref sig .tc .vmem S3x4096x256 .bf16) → arg7.IsWhole →
    (arg8 : Memref sig .tc .vmem S3x4096x256 .bf16) → arg8.IsWhole → (arg9 : Memref sig .tc .vmem S4096x1 .f32) → arg9.IsWhole →
    DmaSems sig S3x4 → DmaSems sig S3x4 → DmaSems sig S3x4 → DmaSems sig S3x4 → β) : β :=
  f qM (Memref.isWhole_whole _) kM (Memref.isWhole_whole _) vM (Memref.isWhole_whole _) oM (Memref.isWhole_whole _) qbM (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _) lM (Memref.isWhole_whole _)
    cc0_scratch6 cc0_scratch7 cc0_scratch8 cc0_scratch9

/-! ## The printed parts are these steps -/

theorem part26_eq :
    app (k0_part26 (F := F)) = (.op .deviceId fun d0 =>
      .op (.load qM allR.toLoadRect (View.loadsAt_vmem h_S4096x256)) fun (x : Vec F S4096x256 .f32) =>
      .op (.load qbM allR.toLoadRect (View.loadsAt_vmem h_S4096x256)) fun _ =>
      .op (.store qbM allR (k0_pay138 x) Finset.univ (View.stores_vmem h_S4096x256 ((Memref.isWhole_whole _).storeExact_slice rfl _ packedbf16_S4096x256_S4096x256_0_0) (fun _ => rfl)) (.inl rfl)) fun _ =>
      .op (.load kM allR.toLoadRect (View.loadsAt_vmem h_S4096x256)) fun (x : Vec F S4096x256 .f32) =>
      .op (.load (ownM true) allR.toLoadRect (View.loadsAt_vmem h_S4096x256)) fun _ =>
      .op (.store (ownM true) allR (k0_pay139 x) Finset.univ (View.stores_vmem h_S4096x256 ((own_whole true).storeExact_slice rfl _ packedbf16_S4096x256_S4096x256_0_0) (fun _ => rfl)) (.inl rfl)) fun _ =>
      .op (.load vM allR.toLoadRect (View.loadsAt_vmem h_S4096x256)) fun (x : Vec F S4096x256 .f32) =>
      .op (.load (ownM false) allR.toLoadRect (View.loadsAt_vmem h_S4096x256)) fun _ =>
      .op (.store (ownM false) allR (k0_pay140 x) Finset.univ (View.stores_vmem h_S4096x256 ((own_whole false).storeExact_slice rfl _ packedbf16_S4096x256_S4096x256_0_0) (fun _ => rfl)) (.inl rfl)) fun _ =>
      semSignalWord (⟨k0_dev1 d0, k0_dev1_lt d0⟩ : Dev nD) barS 1#32 >>= fun _ =>
      .ret ⟨d0, Scalar.remsi (Scalar.addi (Scalar.remsi (Scalar.divsi (Dev.word d0) 1#32) 4#32) 1#32) 4#32, SemArray.scalar (sig.barrier 0 rfl)⟩) := rfl
theorem part27_eq (d0 : Dev nD) (v7 : BitVec 32) (v28 : Sems sig S_) :
    app (k0_part27 (F := F)) d0 v7 v28 = (semSignalWord (⟨k0_dev2 d0, k0_dev2_lt d0⟩ : Dev nD) v28.sem 1#32 >>= fun _ => semWaitWord v28.sem 2#32 >>= fun _ => send d0 true 0 <| send d0 false 0 <| .ret ⟨⟩) := rfl
theorem part28_eq (d0 : Dev nD) (v7 : BitVec 32) :
    app (k0_part28 (F := F)) d0 v7 = (send d0 true 1 <| send d0 false 1 <| send d0 true 2 <| .ret (Scalar.muli v7 1#32)) := rfl
theorem part29_eq (d0 : Dev nD) (v7 w : BitVec 32) :
    app (k0_part29 (F := F)) d0 v7 w = (send d0 false 2 <| send d0 true 3 <| send d0 false 3 <| ownLoad true .ret) := rfl
theorem part30_eq (v7 : BitVec 32) (a : FVec F S4096x256 .bf16) :
    app (k0_part30 (F := F)) v7 a = (ownLoad false fun b => overTiles (firstTile a b) >>= fun _ => recvWait true 0 <| recvWait false 0 <| .ret ⟨⟩) := rfl
theorem part31_eq (d0 : Dev nD) (v7 : BitVec 32) :
    app (k0_part31 (F := F)) d0 v7 = (send d0 true 4 <| send d0 false 4 <| slotLoad true 0 fun a => slotLoad false 0 fun b => overTiles (nextTile a b) >>= fun _ => .ret ⟨⟩) := rfl
theorem part32_eq (d0 : Dev nD) (v7 : BitVec 32) :
    app (k0_part32 (F := F)) d0 v7 = (recvWait true 1 <| recvWait false 1 <| send d0 true 5 <| .ret ⟨⟩) := rfl
theorem part33_eq (d0 : Dev nD) (v7 : BitVec 32) :
    app (k0_part33 (F := F)) d0 v7 = (send d0 false 5 <| slotLoad true 1 fun a => slotLoad false 1 fun b => overTiles (nextTile a b) >>= fun _ => recvWait true 2 <| .ret ⟨⟩) := rfl
theorem part34_eq (d0 : Dev nD) (v7 : BitVec 32) :
    app (k0_part34 (F := F)) d0 v7 = (recvWait false 2 <| send d0 true 6 <| send d0 false 6 <| slotLoad true 2 .ret) := rfl
theorem part35_eq (v7 : BitVec 32) (a : FVec F S1024x256 .bf16) :
    app (k0_part35 (F := F)) v7 a = (slotLoad false 2 fun b => overTiles (nextTile a b) >>= fun _ => recvWait true 3 <| recvWait false 3 <| .ret ⟨⟩) := rfl
theorem part36_eq (d0 : Dev nD) (v7 : BitVec 32) :
    app (k0_part36 (F := F)) d0 v7 = (send d0 true 7 <| send d0 false 7 <| slotLoad true 3 fun a => slotLoad false 3 fun b => overTiles (nextTile a b) >>= fun _ => .ret ⟨⟩) := rfl
theorem part37_eq (d0 : Dev nD) (v7 : BitVec 32) :
    app (k0_part37 (F := F)) d0 v7 = (recvWait true 4 <| recvWait false 4 <| send d0 true 8 <| .ret 1#32) := rfl
theorem part38_eq (d0 : Dev nD) (v7 w : BitVec 32) :
    app (k0_part38 (F := F)) d0 v7 w = (send d0 false 8 <| slotLoad true 4 fun a => slotLoad false 4 fun b => overTiles (nextTile a b) >>= fun _ => recvWait true 5 <| .ret 1#32) := rfl
theorem part39_eq (d0 : Dev nD) (v7 w : BitVec 32) :
    app (k0_part39 (F := F)) d0 v7 w = (recvWait false 5 <| send d0 true 9 <| send d0 false 9 <| .ret ⟨⟩) := rfl
theorem part40_eq (v7 : BitVec 32) :
    app (k0_part40 (F := F)) v7 = (slotLoad true 5 fun a => slotLoad false 5 fun b => overTiles (nextTile a b) >>= fun _ => recvWait true 6 <| recvWait false 6 <| .ret ⟨⟩) := rfl
theorem part41_eq (d0 : Dev nD) (v7 : BitVec 32) :
    app (k0_part41 (F := F)) d0 v7 = (send d0 true 10 <| send d0 false 10 <| slotLoad true 6 fun a => slotLoad false 6 fun b => overTiles (nextTile a b) >>= fun _ => .ret ⟨⟩) := rfl
theorem part42_eq (v7 : BitVec 32) :
    app (k0_part42 (F := F)) v7 = (recvWait true 7 <| recvWait false 7 <| .ret ⟨⟩) := rfl
theorem part43_eq (d0 : Dev nD) (v7 : BitVec 32) :
    app (k0_part43 (F := F)) d0 v7 = (send d0 true 11 <| send d0 false 11 <| slotLoad true 7 fun a => slotLoad false 7 fun b => overTiles (nextTile a b) >>= fun _ => .ret ⟨⟩) := rfl
theorem part44_eq (v7 : BitVec 32) :
    app (k0_part44 (F := F)) v7 = (recvWait true 8 <| recvWait false 8 <| slotLoad true 8 fun a => slotLoad false 8 fun b => overTiles (nextTile a b) >>= fun _ => .ret ⟨⟩) := rfl
theorem part45_eq (v7 : BitVec 32) :
    app (k0_part45 (F := F)) v7 = (recvWait true 9 <| recvWait false 9 <| slotLoad true 9 fun a => slotLoad false 9 fun b => overTiles (nextTile a b) >>= fun _ => .ret ⟨⟩) := rfl
theorem part46_eq (v7 : BitVec 32) :
    app (k0_part46 (F := F)) v7 = (recvWait true 10 <| recvWait false 10 <| slotLoad true 10 fun a => slotLoad false 10 fun b => overTiles (nextTile a b) >>= fun _ => recvWait true 11 <| .ret ⟨⟩) := rfl
theorem part47_eq (v7 : BitVec 32) :
    app (k0_part47 (F := F)) v7 = (recvWait false 11 <| slotLoad true 11 fun a => slotLoad false 11 fun b => overTiles (lastTile a b) >>= fun _ => sendWait true 0 <| .ret ⟨⟩) := rfl
theorem part48_eq :
    app (k0_part48 (F := F)) = (sendWait false 0 <| sendWait true 1 <| sendWait false 1 <| sendWait true 2 <| .ret ⟨⟩) := rfl
theorem part49_eq :
    app (k0_part49 (F := F)) = (sendWait false 2 <| sendWait true 3 <| sendWait false 3 <| .ret ⟨⟩) := rfl
theorem part50_eq :
    app (k0_part50 (F := F)) = (sendWait true 4 <| sendWait false 4 <| sendWait true 5 <| sendWait false 5 <| .ret ⟨⟩) := rfl
theorem part51_eq :
    app (k0_part51 (F := F)) = (sendWait true 6 <| sendWait false 6 <| sendWait true 7 <| .ret ⟨⟩) := rfl
theorem part52_eq :
    app (k0_part52 (F := F)) = (sendWait false 7 <| sendWait true 8 <| sendWait false 8 <| .ret ⟨⟩) := rfl
theorem part53_eq :
    app (k0_part53 (F := F)) = (sendWait true 9 <| sendWait false 9 <| sendWait true 10 <| sendWait false 10 <| .ret ⟨⟩) := rfl

theorem send_bind {γ : Type} (d : Dev nD) (kv : Bool) (j : Fin 12) (K : P F β) (K' : β → P F γ) :
    (send d kv j K >>= K') = send d kv j (K >>= K') := rfl
theorem recvWait_bind {γ : Type} (kv : Bool) (j : Fin 12) (K : P F β) (K' : β → P F γ) :
    (recvWait kv j K >>= K') = recvWait kv j (K >>= K') := rfl
theorem sendWait_bind {γ : Type} (kv : Bool) (j : Fin 12) (K : P F β) (K' : β → P F γ) :
    (sendWait kv j K >>= K') = sendWait kv j (K >>= K') := rfl
theorem slotLoad_bind {γ : Type} (kv : Bool) (j : Fin 12) (K : FVec F S1024x256 .bf16 → P F β) (K' : β → P F γ) :
    (slotLoad kv j K >>= K') = slotLoad kv j (fun a => K a >>= K') := rfl
theorem ownLoad_bind {γ : Type} (kv : Bool) (K : FVec F S4096x256 .bf16 → P F β) (K' : β → P F γ) :
    (ownLoad kv K >>= K') = ownLoad kv (fun a => K a >>= K') := rfl

/-- The body, part by part. -/
theorem body_parts : app (cc0_body (F := F)) = ((do
    let ⟨d0, v7, v28⟩ : Σ' (d0 : Dev nD) (v7 : BitVec 32), Sems sig S_ ← app (k0_part26 (F := F))
    app (k0_part27 (F := F)) d0 v7 v28
    let v78 : BitVec 32 ← app (k0_part28 (F := F)) d0 v7
    let v105 : Vec F S4096x256 .bf16 ← app (k0_part29 (F := F)) d0 v7 v78
    app (k0_part30 (F := F)) v7 v105
    app (k0_part31 (F := F)) d0 v7
    app (k0_part32 (F := F)) d0 v7
    app (k0_part33 (F := F)) d0 v7
    let v221 : FVec F S1024x256 .bf16 ← app (k0_part34 (F := F)) d0 v7
    app (k0_part35 (F := F)) v7 v221
    app (k0_part36 (F := F)) d0 v7
    let c1_i32_376 : BitVec 32 ← app (k0_part37 (F := F)) d0 v7
    let c1_i32_409 : BitVec 32 ← app (k0_part38 (F := F)) d0 v7 c1_i32_376
    app (k0_part39 (F := F)) d0 v7 c1_i32_409
    app (k0_part40 (F := F)) v7
    app (k0_part41 (F := F)) d0 v7
    app (k0_part42 (F := F)) v7
    app (k0_part43 (F := F)) d0 v7
    app (k0_part44 (F := F)) v7
    app (k0_part45 (F := F)) v7
    app (k0_part46 (F := F)) v7
    app (k0_part47 (F := F)) v7
    app (k0_part48 (F := F))
    app (k0_part49 (F := F))
    app (k0_part50 (F := F))
    app (k0_part51 (F := F))
    app (k0_part52 (F := F))
    app (k0_part53 (F := F))
    sendWait true 11 (sendWait false 11 (.ret ⟨⟩))) : P F) >>= fun _ => (.ret ⟨⟩ : P F) := rfl

/-- The kernel body is the tidy one. -/
theorem body_eq : app (cc0_body (F := F)) = tidy := by
  rw [body_parts]
  simp only [part26_eq, part27_eq, part28_eq, part29_eq, part30_eq, part31_eq, part32_eq, part33_eq, part34_eq, part35_eq, part36_eq, part37_eq,
    part38_eq, part39_eq, part40_eq, part41_eq, part42_eq, part43_eq, part44_eq, part45_eq, part46_eq, part47_eq, part48_eq, part49_eq,
    part50_eq, part51_eq, part52_eq, part53_eq, send_bind, recvWait_bind, sendWait_bind, slotLoad_bind, ownLoad_bind, bind_assoc,
    Prog.bind_op, Prog.bind_ret]
  rfl

end Cert.KernelIdeal.Ring

end
-- ==== Proof.Ring.lean ====
/-
  The ring of four devices and its protocol: which semaphore completes which transfer, what
  each completion hands over, in what order the semaphores may be waited for.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The ring -/

set_option backward.proofsInPublic true in
/-- The device to the right, which the transfers go to. -/
def nxt (c : Dev nD) : Dev nD := ⟨(c.val + 1) % 4, Nat.mod_lt _ (by decide)⟩
set_option backward.proofsInPublic true in
/-- The device `n` to the left. -/
def back (n : ℕ) (c : Dev nD) : Dev nD := ⟨(c.val + 3 * n) % 4, Nat.mod_lt _ (by decide)⟩
/-- The device to the left. -/
abbrev prv (c : Dev nD) : Dev nD := back 1 c

theorem prv_nxt (c : Dev nD) : prv (nxt c) = c := by revert c; decide
theorem nxt_prv (c : Dev nD) : nxt (prv c) = c := by revert c; decide
theorem back_zero (c : Dev nD) : back 0 c = c := by revert c; decide
theorem back_nxt (n : ℕ) (c : Dev nD) : back (n + 1) (nxt c) = back n c :=
  Fin.ext (by show ((c.val + 1) % 4 + 3 * (n + 1)) % 4 = (c.val + 3 * n) % 4; omega)

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

def ring : Dev nD ≃ Dev nD := ⟨nxt, prv, prv_nxt, nxt_prv⟩

/-! ## The cells -/

/-- A transfer's end: at the receiver (`true`) or the sender, of the keys (`true`) or the values, at a hop. -/
abbrev Key : Type := Bool × Bool × Fin 12

abbrev barCell (c : Dev nD) : GSem nD τ sig := ((c : Thread nD τ), .reg barS)
abbrev sendCell (c : Dev nD) (kv : Bool) (j : Fin 12) : GSem nD τ sig := ((c : Thread nD τ), .dma (sendS kv j))
abbrev recvCell (c : Dev nD) (kv : Bool) (j : Fin 12) : GSem nD τ sig := ((c : Thread nD τ), .dma (recvS kv j))

def keySem : Key → DmaSem sig
  | (true, kv, j) => recvS kv j
  | (false, kv, j) => sendS kv j

def csem : Option Key → SemLoc sig
  | none => .reg barS
  | some k => .dma (keySem k)
abbrev kcell (ck : Dev nD × Option Key) : GSem nD τ sig := ((ck.1 : Thread nD τ), csem ck.2)

/-- Which end a semaphore belongs to, by its number. -/
def code : SemLoc sig → Option Key
  | .reg _ => none
  | .dma q => if q.val < 4 then none else
      some (decide ((q.val - 4) / 12 % 2 = 1), decide (q.val - 4 < 24), ⟨(q.val - 4) % 12, Nat.mod_lt _ (by decide)⟩)

theorem code_keySem (k : Key) : code (.dma (keySem k)) = some k := by revert k; decide
theorem code_send (kv : Bool) (j : Fin 12) : code (.dma (sendS kv j)) = some (false, kv, j) := code_keySem (false, kv, j)
theorem code_recv (kv : Bool) (j : Fin 12) : code (.dma (recvS kv j)) = some (true, kv, j) := code_keySem (true, kv, j)
theorem code_csem (k : Option Key) : code (csem k) = k := by
  cases k with
  | none => rfl
  | some k => exact code_keySem k
theorem csem_injective : Function.Injective csem := Function.LeftInverse.injective code_csem

/-- A transfer's credit. -/
abbrev N : ℕ := (slotM true 0).view.dmaCredit
theorem N_pos : 0 < N := View.dmaCredit_pos _ (by decide)

theorem slot_credit (kv : Bool) (j : Fin 12) : (slotM kv j).view.dmaCredit = N := by cases kv <;> rfl
theorem src_credit (kv : Bool) (j : Fin 12) : (srcM kv j).view.dmaCredit = N := by
  unfold srcM; split
  · cases kv <;> rfl
  · exact slot_credit kv _

/-! ## Contents -/

/-- The input blocks as staged. -/
def xq (c : Dev nD) : (cc0_stg0_0 : Ref sig .tc).ty.Contents (Elt F) :=
  (win0_0.blk (0 : Fin 1)).view.read (Elt F) ((s₀ m ρ).mem ((c : Thread nD τ).loc main_arg0))
def xk (c : Dev nD) : (cc0_stg1_0 : Ref sig .tc).ty.Contents (Elt F) :=
  (win0_1.blk (0 : Fin 1)).view.read (Elt F) ((s₀ m ρ).mem ((c : Thread nD τ).loc main_arg1))
def xv (c : Dev nD) : (cc0_stg2_0 : Ref sig .tc).ty.Contents (Elt F) :=
  (win0_2.blk (0 : Fin 1)).view.read (Elt F) ((s₀ m ρ).mem ((c : Thread nD τ).loc main_arg2))

/-- A device's scaled queries, rounded. -/
def qb (c : Dev nD) : FVec F S4096x256 .bf16 := k0_pay138 (xq m ρ c)
/-- A device's keys or values, rounded. -/
def rnd (c : Dev nD) : Bool → FVec F S4096x256 .bf16
  | true => k0_pay139 (xk m ρ c)
  | false => k0_pay140 (xv m ρ c)
/-- The chunk of hop `j` of device `c`'s keys or values. -/
def chunk (c : Dev nD) (kv : Bool) (j : Fin 12) : FVec F S1024x256 .bf16 := fun i => rnd m ρ c kv ((ownR j).emb i)

/-- What hop `j` copies from device `c`: the chunk of the device `j / 4` to the left. -/
abbrev sent (c : Dev nD) (kv : Bool) (j : Fin 12) : FVec F S1024x256 .bf16 := chunk m ρ (back (j.val / 4) c) kv j
/-- What hop `j` leaves on device `c`. -/
abbrev landed (c : Dev nD) (kv : Bool) (j : Fin 12) : FVec F S1024x256 .bf16 := chunk m ρ (back (j.val / 4 + 1) c) kv j

theorem landed_nxt (c : Dev nD) (kv : Bool) (j : Fin 12) : landed m ρ (nxt c) kv j = sent m ρ c kv j := by
  unfold landed; rw [back_nxt]

/-- The chunk that landed a round before is the one passed on. -/
theorem landed_before (c : Dev nD) (kv : Bool) (j : Fin 12) (h : ¬ j.val < 4) : landed m ρ c kv (before j) = sent m ρ c kv j := by
  fin_cases j <;> first | rfl | exact absurd (by decide) h

/-! ## The schedule -/

/-- What the right-hand device's signal hands over: its landing buffers. -/
def barPay (c : Dev nD) : sProp 𝕄 :=
  iprop((∃ X, owns (nxt c : Thread nD τ) (commM true) fullShare X) ∗ ∃ X, owns (nxt c : Thread nD τ) (commM false) fullShare X)
/-- What a transfer's end hands over: the slot filled; the source given back. -/
def xferPay (c : Dev nD) : Key → sProp 𝕄
  | (true, kv, j) => owns (c : Thread nD τ) (slotM kv j) fullShare (landed m ρ c kv j)
  | (false, kv, j) => owns (c : Thread nD τ) (srcM kv j) fullShare.right (sent m ρ c kv j)

instance xferPay_storable (c : Dev nD) (k : Key) : BI.Storable (upEmb : UEmb _ 𝕄) (xferPay m ρ c k) := by
  obtain ⟨r, kv, j⟩ := k
  cases r <;> (unfold xferPay; infer_instance)

def dmaPay (c : Dev nD) : Option Key → sProp 𝕄
  | some k => xferPay m ρ c k
  | none => iprop(emp)
instance dmaPay_storable (c : Dev nD) (k : Option Key) : BI.Storable (upEmb : UEmb _ 𝕄) (dmaPay m ρ c k) := by
  cases k <;> (unfold dmaPay; infer_instance)

/-- One round: a barrier cell is paid one unit by each neighbour, a transfer's cells a chunk's credit. -/
def Rd : Rounds.Schedule (GSem nD τ sig) Bool 𝕄 where
  duties g r := if r = 0 ∧ g.1.2 = .tc then (if g.2 = .reg barS then Finset.univ else if (code g.2).isSome then {false} else ∅) else ∅
  unitless _ := False
  amount g _ _ := if g.2 = .reg barS then 1 else N
  payload g _ d := if g.2 = .reg barS then (if d then barPay g.1.1 else iprop(emp)) else dmaPay m ρ g.1.1 (code g.2)
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  show BI.Storable upEmb (if g.2 = .reg barS then (if d then barPay g.1.1 else iprop(emp)) else dmaPay m ρ g.1.1 (code g.2))
  unfold barPay
  (repeat' split) <;> infer_instance

section Sched
variable (c : Dev nD) (k : Key)

theorem key_ne_bar : (SemLoc.dma (keySem k) : SemLoc sig) ≠ .reg barS := fun h => by cases h
abbrev keyCell (c : Dev nD) (k : Key) : GSem nD τ sig := ((c : Thread nD τ), .dma (keySem k))

theorem duties_bar : (Rd (F := F) m ρ).duties (barCell c) 0 = Finset.univ := by
  dsimp only [Rd]; rw [if_pos ⟨rfl, rfl⟩, if_pos rfl]
theorem duties_key : (Rd (F := F) m ρ).duties (keyCell c k) 0 = {false} := by
  dsimp only [Rd]; rw [if_pos ⟨rfl, rfl⟩, if_neg (key_ne_bar k), code_keySem]; rfl
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := by dsimp only [Rd]; exact if_pos rfl
theorem amount_key (d : Bool) : (Rd (F := F) m ρ).amount (keyCell c k) 0 d = N := by dsimp only [Rd]; exact if_neg (key_ne_bar k)
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_key : (Rd (F := F) m ρ).expect (keyCell c k) 0 = N := by
  unfold Schedule.expect Schedule.amountOf; rw [duties_key, Finset.sum_singleton, amount_key]
theorem payload_bar_true : (Rd (F := F) m ρ).payload (barCell c) 0 true = barPay c := by dsimp only [Rd]; rw [if_pos rfl, if_pos rfl]
theorem payload_bar_false : (Rd (F := F) m ρ).payload (barCell c) 0 false = iprop(emp) := by
  dsimp only [Rd]; rw [if_pos rfl]; exact if_neg Bool.false_ne_true
theorem payload_key (d : Bool) : (Rd (F := F) m ρ).payload (keyCell c k) 0 d = xferPay m ρ c k := by
  dsimp only [Rd]; rw [if_neg (key_ne_bar k), code_keySem]; rfl
theorem duty_key : false ∈ (Rd (F := F) m ρ).duties (keyCell c k) 0 := by rw [duties_key]; exact Finset.mem_singleton_self _
theorem payload_intro (d : Bool) : xferPay m ρ c k ⊢ (Rd (F := F) m ρ).payload (keyCell c k) 0 d := Entails.of_eq (payload_key m ρ c k d).symm
theorem rest_bar : bigSep ((Rd (F := F) m ρ).duties (barCell c) 0 \ ∅) (fun d => (Rd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_key : bigSep ((Rd (F := F) m ρ).duties (keyCell c k) 0 \ ∅) (fun d => (Rd (F := F) m ρ).payload (keyCell c k) 0 d) = xferPay m ρ c k := by
  rw [Finset.sdiff_empty, duties_key, bigSep_singleton, payload_key]

end Sched

/-! ## What a device owes; the levels -/

/-- The transfers a device owes its right-hand neighbour, from hop `n` on. -/
def owed (c : Dev nD) (n : ℕ) : CellTallies nD τ sig Unit :=
  ∑ j ∈ Finset.univ.filter (fun j : Fin 12 => n ≤ j.val), (tallyAt (recvCell (nxt c) false j) () N + tallyAt (recvCell (nxt c) true j) () N)

theorem from_succ (j : Fin 12) :
    (Finset.univ.filter fun i : Fin 12 => j.val ≤ i.val) = insert j (Finset.univ.filter fun i : Fin 12 => j.val + 1 ≤ i.val) := by
  ext i
  simp only [Finset.mem_filter, Finset.mem_univ, true_and, Finset.mem_insert, Fin.ext_iff]
  omega
theorem not_mem_from (j : Fin 12) : j ∉ Finset.univ.filter fun i : Fin 12 => j.val + 1 ≤ i.val := by
  simp

theorem owed_succ (c : Dev nD) (j : Fin 12) :
    owed c j.val = (owed c (j.val + 1) + tallyAt (recvCell (nxt c) false j) () N) + tallyAt (recvCell (nxt c) true j) () N := by
  unfold owed
  rw [from_succ, Finset.sum_insert (not_mem_from j)]
  abel

theorem owed_end (c : Dev nD) (n : ℕ) (h : 12 ≤ n) : owed c n = 0 := by
  unfold owed
  rw [Finset.filter_false_of_mem (fun i _ => by omega), Finset.sum_empty]

theorem owed_pos {c : Dev nD} {n : ℕ} {g : GSem nD τ sig} {u : Unit} (h : 0 < owed c n g u) :
    ∃ kv j, n ≤ (j : Fin 12).val ∧ g = recvCell (nxt c) kv j := by
  unfold owed at h
  rw [Finset.sum_apply, Finsupp.finset_sum_apply] at h
  obtain ⟨j, hj, hp⟩ := Finset.exists_ne_zero_of_sum_ne_zero (Nat.pos_iff_ne_zero.mp h)
  rw [Finset.mem_filter] at hj
  rw [Pi.add_apply, Finsupp.add_apply, tallyAt_apply, tallyAt_apply] at hp
  by_cases h1 : g = recvCell (nxt c) false j
  · exact ⟨false, j, hj.2, h1⟩
  by_cases h2 : g = recvCell (nxt c) true j
  · exact ⟨true, j, hj.2, h2⟩
  rw [if_neg (fun h => h1 h.1), if_neg (fun h => h2 h.1)] at hp
  exact absurd rfl hp

/-- A device owes, besides, a unit to each neighbour's barrier cell. -/
def O₁ (c : Dev nD) : CellTallies nD τ sig Unit := owed c 0 + tallyAt (barCell (nxt c)) () 1
def O₀ (c : Dev nD) : CellTallies nD τ sig Unit := O₁ c + tallyAt (barCell (prv c)) () 1

def L (g : GSem nD τ sig) : Finset Unit := if g.1.2 = .tc then {()} else ∅
def keyLv : Option Key → ℕ
  | some (true, _, j) => 2 + j.val
  | _ => 0
/-- Staging and sending at 0, the barrier at 1, the arrival of hop `j` at `2 + j`. -/
def lv (g : GSem nD τ sig) (_ : Unit) : ℕ := if g.2 = .reg barS then 1 else keyLv (code g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (kv : Bool) (j : Fin 12) : lv (recvCell c kv j) () = 2 + j.val := by
  unfold lv; rw [if_neg (fun h => by cases h)]; dsimp only; rw [code_recv]; rfl

/-- Owing a sum is owing a part of it. -/
theorem owed_add {O : CellTallies nD τ sig Unit} {g g' : GSem nD τ sig} {n : ℕ} {u : Unit} (h : 0 < (O + tallyAt g' () n) g u) :
    0 < O g u ∨ g = g' := by
  rw [Pi.add_apply, Finsupp.add_apply, tallyAt_apply] at h
  by_cases h1 : g = g'
  · exact .inr h1
  · rw [if_neg (fun h => h1 h.1), Nat.add_zero] at h
    exact .inl h

theorem O₀_pos {c : Dev nD} {g : GSem nD τ sig} {u : Unit} (h : 0 < O₀ c g u) :
    (∃ kv j, g = recvCell (nxt c) kv j) ∨ ∃ d, g = barCell d := by
  rcases owed_add h with h | h
  · rcases owed_add h with h | h
    · obtain ⟨kv, j, -, h⟩ := owed_pos h
      exact .inl ⟨kv, j, h⟩
    · exact .inr ⟨_, h⟩
  · exact .inr ⟨_, h⟩

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨kv, j, rfl⟩ | ⟨d, rfl⟩ <;> exact Finset.mem_singleton_self _)
      (fun p hp => by
        rw [Finset.mem_singleton.mp hp]; dsimp only [lv, code]; rw [if_neg (fun h => by cases h), if_pos hq]; exact Nat.le_refl 0)
      (fun g u hg => by
        rcases O₀_pos hg with ⟨kv, j, rfl⟩ | ⟨d, rfl⟩
        · rw [lv_recv]; omega
        · rw [lv_bar]; omega)
  · rw [MayWait_zero]; iintro -; iempintro

/-- At its barrier a device owes transfers only. -/
theorem mayWait_bar (c : Dev nD) : (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by obtain ⟨kv, j, -, rfl⟩ := owed_pos hg; exact Finset.mem_singleton_self _)
    (fun p hp => by rw [Finset.mem_singleton.mp hp]; exact Nat.le_of_eq (lv_bar c))
    (fun g u hg => by obtain ⟨kv, j, -, rfl⟩ := owed_pos hg; rw [lv_recv]; omega)

/-- At the arrival of hop `j` a device owes later hops only. -/
theorem mayWait_recv (c : Dev nD) (kv : Bool) (j : Fin 12) (n : ℕ) (h : j.val < n) :
    (levAts L lv : sProp 𝕄) ⊢ MayWait (c : Thread nD τ) (.dma (recvS kv j)) () (owed c n) :=
  MayOwe.of_cut (L := L) (lev := lv) (2 + j.val) (fun p hp => by rw [Finset.mem_singleton.mp hp, L_tc]; exact Finset.mem_singleton_self _)
    (fun g u hg => by obtain ⟨kv, j, -, rfl⟩ := owed_pos hg; exact Finset.mem_singleton_self _)
    (fun p hp => by rw [Finset.mem_singleton.mp hp]; exact Nat.le_of_eq (lv_recv c kv j))
    (fun g u hg => by obtain ⟨kv', j', h', rfl⟩ := owed_pos hg; rw [lv_recv]; omega)

end Cert.KernelIdeal.Ring

end
-- ==== Proof.Steps.lean ====
/-
  One device's transfers, one rule each: a copy out, its completion, a copy's arrival.
-/
module

public import proofs.«01_k».proof.Proof.Ring

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- A program on device `c`, run to `Q`. -/
abbrev run {β : Type} (c : Dev nD) (p : P F β) (Q : β → sProp 𝕄) : sProp 𝕄 :=
  wp frame (wpE (defs₀ (F := F)) 𝒱₀ (c : Thread nD τ) none) Set.univ p Q

/-- The invariants of all the cells, under the names `K`, and that each cell is at its round. -/
def records (K : Dev nD × Option Key → ℕ) : sProp 𝕄 :=
  iprop(bigSep Finset.univ (fun ck : Dev nD × Option Key => cellInv ER (Rd m ρ) (K ck) (kcell ck))
    ∗ bigSep Finset.univ (fun ck : Dev nD × Option Key => reached ER (kcell ck) 0))

instance records_persistent (K : Dev nD × Option Key → ℕ) : BI.Persistent (records (F := F) m ρ K) := by unfold records; infer_instance

theorem inv_at (K : Dev nD × Option Key → ℕ) (ck : Dev nD × Option Key) :
    (records m ρ K : sProp 𝕄) ⊢ cellInv ER (Rd m ρ) (K ck) (kcell ck) := by
  unfold records
  exact sep_elim_left.trans (BI.bigSep_elim (Finset.mem_univ ck))
theorem reached_at (K : Dev nD × Option Key → ℕ) (ck : Dev nD × Option Key) :
    (records m ρ K : sProp 𝕄) ⊢ reached ER (kcell ck) 0 := by
  unfold records
  exact sep_elim_right.trans (BI.bigSep_elim (Finset.mem_univ ck))

/-- What device `c` still owes, having waited for any cells. -/
def owing (c : Dev nD) (O : CellTallies nD τ sig Unit) : sProp 𝕄 := iprop(∃ W, owes (c : Thread nD τ) O W)

section Steps

variable (K : Dev nD × Option Key → ℕ) (c : Dev nD) {β : Type} (Q : β → sProp (MT nD τ sig Unit (Elt F) ℕ UU ℕ))

/-- A wait for a transfer's end `k` on a cell of the device's own: its payload, and the cell closed. -/
theorem wp_end {s s' : Shape} {e e' : EltTy} {src : Memref sig .tc .vmem s e} {dst : Memref sig .tc .vmem s' e'}
    {hsrc : src.view.WordExact} {hdst : dst.view.WordExact} (k : Key) (hN : dst.view.dmaCredit = N) (O : CellTallies nD τ sig Unit) {Kp : P F β}
    (hw : (levAts L lv : sProp 𝕄) ⊢ MayWait (c : Thread nD τ) (.dma (keySem k)) () O) :
    iprop(records m ρ K ∗ levAts L lv ∗ cred (tallyAt (keyCell c k) () N) ∗ atPos ER (keyCell c k) 0 ∅ 0 ∗ owing c O)
      ⊢ iprop(((xferPay m ρ c k ∗ semVal (keyCell c k) 0 ∗ owing c O) -∗ run c Kp Q)
          -∗ run c (.op (.waitDma2 (keySem k) src dst hsrc hdst) fun _ => Kp) Q) := by
  unfold owing
  iintro ⟨#HR, #Hlev, Hc, Hat, ⟨%W, HO⟩⟩ Hk
  iapply (Rounds.wp_wait_rest_token 𝒱₀ ER (Rd m ρ) (c : Thread nD τ) none (κ := K (c, some k))
      (wpE_waitDma2_eq 𝒱₀ (c : Thread nD τ) none Set.univ) (Set.mem_univ _) () (O := O) (W := W) (R := 0) (m := 0) (T := ∅)
      ((Nat.zero_add _).trans (hN.trans (expect_key m ρ c k).symm))) $$ [Hc HO Hat]
  · isplitr; · iapply (inv_at m ρ K (c, some k)); iexact HR
    isplitl [Hc]; · rw [hN]; iexact Hc
    isplitl [HO]; · iexact HO
    isplitr; · iapply hw; iexact Hlev
    iexact Hat
  iintro ⟨HO, Hat, -, Hpay⟩
  ihave Hp := (Entails.of_eq (rest_key m ρ c k)) $$ Hpay
  imod (Rounds.cell_close ER (Rd m ρ) (Set.mem_univ (K (c, some k))) (fun h => h) (R := 0 + 1) (duties_later m ρ (keyCell c k))) $$ [Hat] with Hz
  · isplitr; · iapply (inv_at m ρ K (c, some k)); iexact HR
    iexact Hat
  iapply Hk
  isplitl [Hp]; · iexact Hp
  isplitl [Hz]; · iexact Hz
  iexists _; iexact HO

/-- The arrival of hop `j`. -/
theorem wp_recvWait (kv : Bool) (j : Fin 12) (n : ℕ) (h : j.val < n) {Kp : P F β} :
    iprop(records m ρ K ∗ levAts L lv ∗ cred (tallyAt (recvCell c kv j) () N) ∗ atPos ER (recvCell c kv j) 0 ∅ 0 ∗ owing c (owed c n))
      ⊢ iprop(((owns (c : Thread nD τ) (slotM kv j) fullShare (landed m ρ c kv j) ∗ semVal (recvCell c kv j) 0 ∗ owing c (owed c n)) -∗ run c Kp Q)
          -∗ run c (recvWait kv j Kp) Q) :=
  wp_end m ρ K c Q (true, kv, j) (slot_credit kv j) _ (mayWait_recv c kv j n h)

/-- The completion of the device's own copy at hop `j`. -/
theorem wp_sendWait (kv : Bool) (j : Fin 12) {Kp : P F β} :
    iprop(records m ρ K ∗ levAts L lv ∗ cred (tallyAt (sendCell c kv j) () N) ∗ atPos ER (sendCell c kv j) 0 ∅ 0 ∗ owing c 0)
      ⊢ iprop(((owns (c : Thread nD τ) (srcM kv j) fullShare.right (sent m ρ c kv j) ∗ semVal (sendCell c kv j) 0 ∗ owing c 0) -∗ run c Kp Q)
          -∗ run c (sendWait kv j Kp) Q) :=
  wp_end m ρ K c Q (false, kv, j) (src_credit kv j) _ (by rw [MayWait_zero]; iintro -; iempintro)

/-- The copy of hop `j` to `n`, the right-hand device. -/
theorem wp_copy (n : Dev nD) (hn : n = nxt c) (kv : Bool) (j : Fin 12) (O : CellTallies nD τ sig Unit) {Kp : P F β}
    {hsem : DmaTarget.Typed .vmem (.dma (recvS kv j)) (.remote (Dev.tc n : Thread nD τ) (slotM kv j) (.dma (sendS kv j)))} :
    iprop(records m ρ K ∗ owns (c : Thread nD τ) (srcM kv j) fullShare.right (sent m ρ c kv j)
        ∗ (∃ X, owns (nxt c : Thread nD τ) (slotM kv j) fullShare X)
        ∗ dutyTok ER (sendCell c kv j) 0 false ∗ dutyTok ER (recvCell (nxt c) kv j) 0 false
        ∗ owing c (O + tallyAt (recvCell (nxt c) kv j) () N))
      ⊢ iprop(((cred (tallyAt (sendCell c kv j) () N) ∗ owing c O) -∗ run c Kp Q)
          -∗ run c (.op (.enqueueDma (srcM kv j) (.remote (Dev.tc n : Thread nD τ) (slotM kv j) (.dma (sendS kv j))) (.dma (recvS kv j))
              (src_exact kv j) (slot_exact kv j) hsem) fun _ => Kp) Q) := by
  subst hn
  unfold owing owns
  iintro ⟨#HR, ⟨%fs, %hfs, Hs⟩, ⟨%X, %fd, -, Hd⟩, Ht₁, Ht₂, ⟨%W, HO⟩⟩ Hk
  iapply (Rounds.wp_send_pointsTo 𝒱₀ ER (Rd m ρ) (c : Thread nD τ) none (κ₁ := K (c, some (false, kv, j))) (κ₂ := K (nxt c, some (true, kv, j)))
    (c' := (nxt c : Thread nD τ)) (src := srcM kv j) (dst := slotM kv j) (q := fullShare.right) (fs := fs)
    (r₁ := 0) (r₂ := 0) (d₁ := false) (d₂ := false) (fd := fd)
    (duty_key m ρ c (false, kv, j)) (duty_key m ρ (nxt c) (true, kv, j))
    () () N (show (slotM kv j).view.amount (.dma (recvS kv j)) = N from slot_credit kv j) (amount_key m ρ c (false, kv, j) false) (amount_key m ρ (nxt c) (true, kv, j) false) O rfl (W := W)
    (by
      refine BIBase.Entails.trans ?_ (payload_intro m ρ c (false, kv, j) false)
      unfold xferPay owns
      iintro H; iexists fs; isplitr; · (ipureintro; exact hfs)
      iexact H)
    (by
      refine BIBase.Entails.trans ?_ (payload_intro m ρ (nxt c) (true, kv, j) false)
      unfold xferPay owns
      iintro H; iexists ((slotM kv j).view.write (Elt F) fd ((srcM kv j).view.read (Elt F) fs) Finset.univ); isplitr
      · ipureintro
        rw [landed_nxt, ← hfs]
        exact funext fun x => View.read_write_of_mem _ _ (Finset.mem_univ x)
      iexact H)) $$ [Hs Hd HO Ht₁ Ht₂]
  · isplitr; · iapply (inv_at m ρ K (c, some (false, kv, j))); iexact HR
    isplitr; · iapply (inv_at m ρ K (nxt c, some (true, kv, j))); iexact HR
    isplitl [Hs]; · iexact Hs
    isplitl [Hd]; · iexact Hd
    isplitl [HO]; · iexact HO
    isplitl [Ht₁]; · iexact Ht₁
    isplitr; · iapply (reached_at m ρ K (c, some (false, kv, j))); iexact HR
    isplitl [Ht₂]; · iexact Ht₂
    iapply (reached_at m ρ K (nxt c, some (true, kv, j))); iexact HR
  iintro ⟨Hc, HO⟩
  iapply Hk
  isplitl [Hc]; · iexact Hc
  iexists _; iexact HO

theorem wp_send (kv : Bool) (j : Fin 12) (O : CellTallies nD τ sig Unit) {Kp : P F β} :
    iprop(records m ρ K ∗ owns (c : Thread nD τ) (srcM kv j) fullShare.right (sent m ρ c kv j)
        ∗ (∃ X, owns (nxt c : Thread nD τ) (slotM kv j) fullShare X)
        ∗ dutyTok ER (sendCell c kv j) 0 false ∗ dutyTok ER (recvCell (nxt c) kv j) 0 false
        ∗ owing c (O + tallyAt (recvCell (nxt c) kv j) () N))
      ⊢ iprop(((cred (tallyAt (sendCell c kv j) () N) ∗ owing c O) -∗ run c Kp Q) -∗ run c (send c kv j Kp) Q) :=
  wp_copy m ρ K c Q _ (dev2_eq c) kv j O

end Steps

end Cert.KernelIdeal.Ring

end
-- ==== Proof.Tiles.lean ====
/-
  The loops over eight tiles of 512 rows: what a loop leaves in the sums is glued from what
  it computes for each tile.
-/
module

public import proofs.«01_k».proof.Proof.Steps
public import Idealize.ShloMosaic.Lib.Scf
public import Idealize.ShloMosaic.Lib.ValueIdxCore

@[expose] public section

set_option maxRecDepth 65536

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

/-! ## Gluing tiles -/

section Glue

variable {w : ℕ} {α : Type}

abbrev Full (w : ℕ) : Shape := ⟨2, ![4096, w]⟩
abbrev Tile (w : ℕ) : Shape := ⟨2, ![512, w]⟩

/-- Tile `k` of an array of 4096 rows. -/
def tileOf (o : (Full w).Idx → α) (k : Fin 8) : (Tile w).Idx → α :=
  fun i => o (ix2 ⟨512 * k.val + (i 0).val, by have := idx2_lt0 i; omega⟩ (i 1))
/-- The array of 4096 rows with given tiles. -/
def glue (x : Fin 8 → (Tile w).Idx → α) : (Full w).Idx → α :=
  fun i => x ⟨(i 0).val / 512, by have := idx2_lt0 i; omega⟩ (ix2 ⟨(i 0).val % 512, Nat.mod_lt _ (by decide)⟩ (i 1))
/-- The array `o` with its first `n` tiles replaced. -/
def mixed (n : ℕ) (x : Fin 8 → (Tile w).Idx → α) (o : (Full w).Idx → α) : (Full w).Idx → α :=
  fun i => if (i 0).val < 512 * n then glue x i else o i

theorem mixed_zero (x : Fin 8 → (Tile w).Idx → α) (o : (Full w).Idx → α) : mixed 0 x o = o :=
  funext fun i => if_neg (by omega)
theorem mixed_all (x : Fin 8 → (Tile w).Idx → α) (o : (Full w).Idx → α) : mixed 8 x o = glue x :=
  funext fun i => if_pos (by have := idx2_lt0 i; omega)

theorem tileOf_glue (x : Fin 8 → (Tile w).Idx → α) (k : Fin 8) : tileOf (glue x) k = x k := by
  funext i
  have h := idx2_lt0 i
  unfold tileOf glue
  have e0 : (⟨(512 * k.val + (i 0).val) / 512, by omega⟩ : Fin 8) = k := Fin.ext (by show (512 * k.val + (i 0).val) / 512 = k.val; omega)
  have e1 : (⟨(512 * k.val + (i 0).val) % 512, Nat.mod_lt _ (by decide)⟩ : Fin 512) = i 0 :=
    Fin.ext (by show (512 * k.val + (i 0).val) % 512 = (i 0).val; omega)
  show x ⟨(512 * k.val + (i 0).val) / 512, _⟩ (ix2 ⟨(512 * k.val + (i 0).val) % 512, _⟩ (i 1)) = x k i
  rw [e0, e1]
  exact congrArg (x k) (eq_ix2 i).symm

theorem tileOf_mixed (n : ℕ) (k : Fin 8) (h : n ≤ k.val) (x : Fin 8 → (Tile w).Idx → α) (o : (Full w).Idx → α) :
    tileOf (mixed n x o) k = tileOf o k := by
  funext i
  unfold tileOf mixed
  exact if_neg (by show ¬ (512 * k.val + (i 0).val < 512 * n); omega)

/-- A tile's rows in the whole. -/
theorem emb_tile {off : Fin 2 → ℕ} {k : Fin 8} (h : off = ![512 * k.val, 0]) (inb) (i : (Tile w).Idx) :
    (Rect.unit (s := Full w) off (Tile w).size inb).emb i = ix2 ⟨512 * k.val + (i 0).val, by have := idx2_lt0 i; omega⟩ (i 1) := by
  subst h
  funext a
  match a with
  | ⟨0, _⟩ => exact Fin.ext (by show 512 * k.val + 1 * (i 0).val = _; rw [Nat.one_mul])
  | ⟨1, _⟩ => exact Fin.ext (by show 0 + 1 * (i 1).val = (i 1).val; omega)

/-- Replacing one tile more. -/
theorem mixed_succ {off : Fin 2 → ℕ} {k : Fin 8} (h : off = ![512 * k.val, 0]) (inb) (x : Fin 8 → (Tile w).Idx → α) (o f : (Full w).Idx → α)
    (hin : ∀ i, f ((Rect.unit (s := Full w) off (Tile w).size inb).emb i) = x k i)
    (hout : ∀ j, j ∉ (Rect.unit (s := Full w) off (Tile w).size inb).set → f j = mixed k.val x o j) : f = mixed (k.val + 1) x o := by
  funext j
  by_cases hj : j ∈ (Rect.unit (s := Full w) off (Tile w).size inb).set
  · rw [← Rect.map_emb_univ, Finset.mem_map] at hj
    obtain ⟨i, -, rfl⟩ := hj
    rw [hin, emb_tile h]
    have hi := idx2_lt0 i
    have := congrFun (tileOf_glue x k) i
    unfold tileOf at this
    unfold mixed
    rw [if_pos (by show 512 * k.val + (i 0).val < 512 * (k.val + 1); omega)]
    exact this.symm
  · rw [hout j hj]
    have : ¬ (512 * k.val ≤ (j 0).val ∧ (j 0).val < 512 * k.val + 512) := fun hh => hj <| by
      rw [Rect.mem_set_unit]
      intro a
      subst h
      match a with
      | ⟨0, _⟩ => exact hh
      | ⟨1, _⟩ => exact ⟨Nat.zero_le _, by show (j 1).val < 0 + w; have := idx2_lt1 j; omega⟩
    unfold mixed
    by_cases h1 : (j 0).val < 512 * k.val
    · rw [if_pos h1, if_pos (by omega)]
    · rw [if_neg h1, if_neg (by omega)]

end Glue

/-! ## The loops' tiles -/

theorem trips_eq : k0_t2_loop.trips = 2 := by decide
def tileNo (t : Trip) (u : Fin 4) : Fin 8 := ⟨4 * t.val + u.val, by have := t.isLt; have := trips_eq; omega⟩
theorem off3_eq (t : Trip) (u : Fin 4) : k0_off3 t (BitVec.ofNat 32 u.val) = ![512 * (tileNo t u).val, 0] := by
  revert t u; decide
theorem off4_eq (t : Trip) (u : Fin 4) : k0_off4 t (BitVec.ofNat 32 u.val) = ![512 * (tileNo t u).val, 0] := by
  revert t u; decide

variable {F : FTy → Type} [FloatOps F] [Named F]

theorem read_qTile (t : Trip) (u : Fin 4) (f : FVec F S4096x256 .bf16) :
    (qbM : Memref sig .tc .vmem S4096x256 .bf16).view.readAt (Elt F) (rowR t u).toLoadRect f = tileOf f (tileNo t u) :=
  funext fun i => congrArg f (emb_tile (off3_eq t u) (k0_off3_inb t u) i)
theorem read_outTile (t : Trip) (u : Fin 4) (f : FVec F S4096x256 .f32) :
    (oM : Memref sig .tc .vmem S4096x256 .f32).view.readAt (Elt F) (rowR t u).toLoadRect f = tileOf f (tileNo t u) :=
  funext fun i => congrArg f (emb_tile (off3_eq t u) (k0_off3_inb t u) i)
theorem read_sumTile (t : Trip) (u : Fin 4) (f : FVec F S4096x1 .f32) :
    (lM : Memref sig .tc .vmem S4096x1 .f32).view.readAt (Elt F) (sumR t u).toLoadRect f = tileOf f (tileNo t u) :=
  funext fun i => congrArg f (emb_tile (off4_eq t u) (k0_off4_inb t u) i)

theorem write_outTile (t : Trip) (u : Fin 4) (x : Fin 8 → FVec F S512x256 .f32) (o : FVec F S4096x256 .f32) :
    ((oM : Memref sig .tc .vmem S4096x256 .f32).access (rowR t u) : View sig .tc _ _ _).write (Elt F) (mixed (tileNo t u).val x o) (x (tileNo t u)) Finset.univ
      = mixed ((tileNo t u).val + 1) x o :=
  mixed_succ (off3_eq t u) (k0_off3_inb t u) x o _
    (fun i => View.write_emb_of_mem (v := (oM : Memref sig .tc .vmem S4096x256 .f32).access (rowR t u)) _ _ (Finset.mem_univ i))
    (fun j hj => View.write_of_not_mem (v := (oM : Memref sig .tc .vmem S4096x256 .f32).access (rowR t u)) _ _ _
      fun h => hj (by rw [← Rect.map_emb_univ]; exact h))
theorem write_sumTile (t : Trip) (u : Fin 4) (x : Fin 8 → FVec F S512x1 .f32) (o : FVec F S4096x1 .f32) :
    ((lM : Memref sig .tc .vmem S4096x1 .f32).access (sumR t u) : View sig .tc _ _ _).write (Elt F) (mixed (tileNo t u).val x o) (x (tileNo t u)) Finset.univ
      = mixed ((tileNo t u).val + 1) x o :=
  mixed_succ (off4_eq t u) (k0_off4_inb t u) x o _
    (fun i => View.write_emb_of_mem (v := (lM : Memref sig .tc .vmem S4096x1 .f32).access (sumR t u)) _ _ (Finset.mem_univ i))
    (fun j hj => View.write_of_not_mem (v := (lM : Memref sig .tc .vmem S4096x1 .f32).access (sumR t u)) _ _ _
      fun h => hj (by rw [← Rect.map_emb_univ]; exact h))

/-! ## The loops' rules -/

section Rules

variable (c : Dev nD)

/-- The buffers a loop works on: the rounded queries, the sum of weighted values, the sum of weights. -/
def sums (q : FVec F S4096x256 .bf16) (o : FVec F S4096x256 .f32) (l : FVec F S4096x1 .f32) : sProp (MT nD τ sig Unit (Elt F) ℕ UU ℕ) :=
  iprop((((c : Thread nD τ).loc cc0_scratch0) ↦{fullShare} (q : cc0_scratch0.ty.Contents (Elt F)))
    ∗ (((c : Thread nD τ).loc cc0_stg3_0) ↦{fullShare} (o : cc0_stg3_0.ty.Contents (Elt F)))
    ∗ (((c : Thread nD τ).loc cc0_scratch5) ↦{fullShare} (l : cc0_scratch5.ty.Contents (Elt F))))

variable (Q : PUnit → sProp (MT nD τ sig Unit (Elt F) ℕ UU ℕ))

theorem wp_firstTile (a b : FVec F S4096x256 .bf16) (q : FVec F S4096x256 .bf16) (o : FVec F S4096x256 .f32) (l : FVec F S4096x1 .f32)
    (x : Fin 8 → FVec F S512x256 .f32) (y : Fin 8 → FVec F S512x1 .f32)
    (hx : ∀ k, firstOut a b (tileOf q k) = x k) (hy : ∀ k, firstSum a (tileOf q k) = y k) (t : Trip) (u : Fin 4) (Kp : P F) :
    sums c q (mixed (tileNo t u).val x o) (mixed (tileNo t u).val y l)
      ⊢ iprop((sums c q (mixed ((tileNo t u).val + 1) x o) (mixed ((tileNo t u).val + 1) y l) -∗ run c Kp Q) -∗ run c (firstTile a b t u Kp) Q) := by
  unfold sums firstTile outStore outTile sumStore sumTile qTile
  iintro ⟨Hq, Ho, Hl⟩ Hk
  iapply (wp_load 𝒱₀ (c : Thread nD τ) none Set.univ (m := qbM) (Finset.subset_univ _)) $$ Hq; iintro Hq
  rw [read_qTile, hx, hy]
  iapply (wp_load 𝒱₀ (c : Thread nD τ) none Set.univ (m := oM) (Finset.subset_univ _)) $$ Ho; iintro Ho
  iapply (wp_store 𝒱₀ (c : Thread nD τ) none Set.univ (m := oM) (r := rowR t u) (Mk := Finset.univ) (Finset.subset_univ _)) $$ Ho; iintro Ho
  rw [write_outTile]
  iapply (wp_load 𝒱₀ (c : Thread nD τ) none Set.univ (m := lM) (Finset.subset_univ _)) $$ Hl; iintro Hl
  iapply (wp_store 𝒱₀ (c : Thread nD τ) none Set.univ (m := lM) (r := sumR t u) (Mk := Finset.univ) (Finset.subset_univ _)) $$ Hl; iintro Hl
  rw [write_sumTile]
  iapply Hk
  isplitl [Hq]; · iexact Hq
  isplitl [Ho]; · iexact Ho
  iexact Hl

theorem wp_nextTile (a b : FVec F S1024x256 .bf16) (q : FVec F S4096x256 .bf16) (o : FVec F S4096x256 .f32) (l : FVec F S4096x1 .f32)
    (x : Fin 8 → FVec F S512x256 .f32) (y : Fin 8 → FVec F S512x1 .f32)
    (hx : ∀ k, nextOut a b (tileOf q k) (tileOf o k) = x k) (hy : ∀ k, shapeCast S512x1 (nextSum a (tileOf q k) (tileOf l k)) shapeCasts_S512x1_S512x1 = y k)
    (t : Trip) (u : Fin 4) (Kp : P F) :
    sums c q (mixed (tileNo t u).val x o) (mixed (tileNo t u).val y l)
      ⊢ iprop((sums c q (mixed ((tileNo t u).val + 1) x o) (mixed ((tileNo t u).val + 1) y l) -∗ run c Kp Q) -∗ run c (nextTile a b t u Kp) Q) := by
  unfold sums nextTile outStore outTile sumStore sumTile qTile
  iintro ⟨Hq, Ho, Hl⟩ Hk
  iapply (wp_load 𝒱₀ (c : Thread nD τ) none Set.univ (m := qbM) (Finset.subset_univ _)) $$ Hq; iintro Hq
  rw [read_qTile]
  iapply (wp_load 𝒱₀ (c : Thread nD τ) none Set.univ (m := lM) (Finset.subset_univ _)) $$ Hl; iintro Hl
  rw [read_sumTile, tileOf_mixed _ _ (Nat.le_refl _), hy]
  iapply (wp_load 𝒱₀ (c : Thread nD τ) none Set.univ (m := oM) (Finset.subset_univ _)) $$ Ho; iintro Ho
  rw [read_outTile, tileOf_mixed _ _ (Nat.le_refl _), hx]
  iapply (wp_load 𝒱₀ (c : Thread nD τ) none Set.univ (m := oM) (Finset.subset_univ _)) $$ Ho; iintro Ho
  iapply (wp_store 𝒱₀ (c : Thread nD τ) none Set.univ (m := oM) (r := rowR t u) (Mk := Finset.univ) (Finset.subset_univ _)) $$ Ho; iintro Ho
  rw [write_outTile]
  iapply (wp_load 𝒱₀ (c : Thread nD τ) none Set.univ (m := lM) (Finset.subset_univ _)) $$ Hl; iintro Hl
  iapply (wp_store 𝒱₀ (c : Thread nD τ) none Set.univ (m := lM) (r := sumR t u) (Mk := Finset.univ) (Finset.subset_univ _)) $$ Hl; iintro Hl
  rw [write_sumTile]
  iapply Hk
  isplitl [Hq]; · iexact Hq
  isplitl [Ho]; · iexact Ho
  iexact Hl

theorem wp_lastTile (a b : FVec F S1024x256 .bf16) (q : FVec F S4096x256 .bf16) (o : FVec F S4096x256 .f32) (l : FVec F S4096x1 .f32)
    (x : Fin 8 → FVec F S512x256 .f32) (hx : ∀ k, lastOut a b (tileOf q k) (tileOf o k) (tileOf l k) = x k)
    (t : Trip) (u : Fin 4) (Kp : P F) :
    sums c q (mixed (tileNo t u).val x o) l
      ⊢ iprop((sums c q (mixed ((tileNo t u).val + 1) x o) l -∗ run c Kp Q) -∗ run c (lastTile a b t u Kp) Q) := by
  unfold sums lastTile outStore outTile sumTile qTile
  iintro ⟨Hq, Ho, Hl⟩ Hk
  iapply (wp_load 𝒱₀ (c : Thread nD τ) none Set.univ (m := qbM) (Finset.subset_univ _)) $$ Hq; iintro Hq
  rw [read_qTile]
  iapply (wp_load 𝒱₀ (c : Thread nD τ) none Set.univ (m := lM) (Finset.subset_univ _)) $$ Hl; iintro Hl
  rw [read_sumTile]
  iapply (wp_load 𝒱₀ (c : Thread nD τ) none Set.univ (m := oM) (Finset.subset_univ _)) $$ Ho; iintro Ho
  rw [read_outTile, tileOf_mixed _ _ (Nat.le_refl _), hx]
  iapply (wp_load 𝒱₀ (c : Thread nD τ) none Set.univ (m := oM) (Finset.subset_univ _)) $$ Ho; iintro Ho
  iapply (wp_store 𝒱₀ (c : Thread nD τ) none Set.univ (m := oM) (r := rowR t u) (Mk := Finset.univ) (Finset.subset_univ _)) $$ Ho; iintro Ho
  rw [write_outTile]
  iapply Hk
  isplitl [Hq]; · iexact Hq
  isplitl [Ho]; · iexact Ho
  iexact Hl

/-- A loop over the tiles, by an invariant of the tiles done. -/
theorem wp_overTiles (I : ℕ → sProp (MT nD τ sig Unit (Elt F) ℕ UU ℕ)) (tile : Trip → Fin 4 → P F → P F)
    (h : ∀ (Q : PUnit → sProp (MT nD τ sig Unit (Elt F) ℕ UU ℕ)) (t : Trip) (u : Fin 4) (Kp : P F),
      I (tileNo t u).val ⊢ iprop((I ((tileNo t u).val + 1) -∗ run c Kp Q) -∗ run c (tile t u Kp) Q)) (Kp : P F) :
    I 0 ⊢ iprop((I 8 -∗ run c Kp Q) -∗ run c (overTiles tile >>= fun _ => Kp) Q) := by
  unfold overTiles
  iintro HI Hk
  iapply (Scf.wp_for_bind frame (wpE (defs₀ (F := F)) 𝒱₀ (c : Thread nD τ) none) Set.univ _ _ _ k0_t2_ok (⟨⟩ : PUnit) _
    (fun n _ => I (4 * n)) (fun t _ => by
      have e : (4 * t.val : ℕ) = (tileNo t 0).val := rfl
      rw [e]
      iintro HI
      iapply (h _ t 0) $$ HI; iintro HI
      rw [show (tileNo t 0).val + 1 = (tileNo t 1).val from rfl]
      iapply (h _ t 1) $$ HI; iintro HI
      rw [show (tileNo t 1).val + 1 = (tileNo t 2).val from rfl]
      iapply (h _ t 2) $$ HI; iintro HI
      rw [show (tileNo t 2).val + 1 = (tileNo t 3).val from rfl]
      iapply (h _ t 3) $$ HI; iintro HI
      unfold run
      rw [wp_ret]; imodintro
      rw [show (tileNo t 3).val + 1 = 4 * (t.val + 1) from rfl]
      iexact HI)) $$ HI
  iintro %acc HI
  iapply Hk
  rw [show (4 * Scf.trips k0_t2_loop.lb k0_t2_loop.ub k0_t2_loop.st : ℕ) = 8 from congrArg (4 * ·) trips_eq]
  iexact HI

end Rules

end Cert.KernelIdeal.Ring

end
-- ==== Proof.Phases.lean ====
/-
  A device's run, phase by phase: what it holds before each hop, and what the sums hold.
-/
module

public import proofs.«01_k».proof.Proof.Tiles
public import Idealize.ShloMosaic.Lib.StableHlo.CollectiveRules

@[expose] public section

set_option maxRecDepth 65536

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

variable (m : (ℓ : Loc nD τ sig) → Buf (Elt F) ℓ) (ρ : Dev nD → PrngReg)

/-! ## The sums -/

/-- The sums after a chunk more. -/
def nextAcc (a b : FVec F S1024x256 .bf16) (q : FVec F S4096x256 .bf16) (s : FVec F S4096x256 .f32 × FVec F S4096x1 .f32) :
    FVec F S4096x256 .f32 × FVec F S4096x1 .f32 :=
  (glue fun k => nextOut a b (tileOf q k) (tileOf s.1 k),
    glue fun k => shapeCast S512x1 (nextSum a (tileOf q k) (tileOf s.2 k)) shapeCasts_S512x1_S512x1)

/-- The hop of a number below twelve. -/
abbrev hop (n : ℕ) : Fin 12 := ⟨n % 12, Nat.mod_lt _ (by decide)⟩
theorem hop_val (j : Fin 12) : hop j.val = j := Fin.ext (Nat.mod_eq_of_lt j.isLt)

/-- The sums after the own rows and `n` hops. -/
def acc (c : Dev nD) : ℕ → FVec F S4096x256 .f32 × FVec F S4096x1 .f32
  | 0 => (glue fun k => firstOut (rnd m ρ c true) (rnd m ρ c false) (tileOf (qb m ρ c) k), glue fun k => firstSum (rnd m ρ c true) (tileOf (qb m ρ c) k))
  | n + 1 => nextAcc (landed m ρ c true (hop n)) (landed m ρ c false (hop n)) (qb m ρ c) (acc c n)

/-- A device's result. -/
def outAt (c : Dev nD) : FVec F S4096x256 .f32 :=
  glue fun k => lastOut (landed m ρ c true 11) (landed m ρ c false 11) (tileOf (qb m ρ c) k) (tileOf (acc m ρ c 11).1 k) (tileOf (acc m ρ c 11).2 k)

/-- The sums' buffers after `n` hops; after the last the result. -/
def held (c : Dev nD) (n : ℕ) : sProp (MT nD τ sig Unit (Elt F) ℕ UU ℕ) :=
  if n = 12 then sums c (qb m ρ c) (outAt m ρ c) (acc m ρ c 11).2 else sums c (qb m ρ c) (acc m ρ c n).1 (acc m ρ c n).2

theorem held_of_ne (c : Dev nD) (n : ℕ) (h : n ≠ 12) : held m ρ c n = sums c (qb m ρ c) (acc m ρ c n).1 (acc m ρ c n).2 := if_neg h
theorem held_end (c : Dev nD) : held m ρ c 12 = sums c (qb m ρ c) (outAt m ρ c) (acc m ρ c 11).2 := if_pos rfl

section Loops

variable (c : Dev nD) (Q : PUnit → sProp (MT nD τ sig Unit (Elt F) ℕ UU ℕ))

/-- The loop over the own rows. -/
theorem wp_firstLoop (o : FVec F S4096x256 .f32) (l : FVec F S4096x1 .f32) (Kp : P F) :
    sums c (qb m ρ c) o l
      ⊢ iprop((held m ρ c 0 -∗ run c Kp Q) -∗ run c (overTiles (firstTile (rnd m ρ c true) (rnd m ρ c false)) >>= fun _ => Kp) Q) := by
  have h := wp_overTiles c Q
    (fun n => sums c (qb m ρ c) (mixed n (fun k => firstOut (rnd m ρ c true) (rnd m ρ c false) (tileOf (qb m ρ c) k)) o)
      (mixed n (fun k => firstSum (rnd m ρ c true) (tileOf (qb m ρ c) k)) l))
    (firstTile (rnd m ρ c true) (rnd m ρ c false))
    (fun Q t u Kp => wp_firstTile c Q _ _ _ o l _ _ (fun _ => rfl) (fun _ => rfl) t u Kp) Kp
  rw [mixed_zero, mixed_zero, mixed_all, mixed_all] at h
  rw [held_of_ne m ρ c 0 (by decide)]
  exact h

/-- The loop over the chunk of a hop. -/
theorem wp_nextLoop (j : Fin 12) (Kp : P F) :
    held m ρ c j.val
      ⊢ iprop((held m ρ c (j.val + 1) -∗ run c Kp Q)
        -∗ run c (overTiles (if j.val = 11 then lastTile (landed m ρ c true j) (landed m ρ c false j)
            else nextTile (landed m ρ c true j) (landed m ρ c false j)) >>= fun _ => Kp) Q) := by
  rw [held_of_ne m ρ c j.val (by omega)]
  by_cases hj : j.val = 11
  · have e : j = 11 := Fin.ext hj
    subst e
    rw [if_pos hj, show ((11 : Fin 12).val + 1) = 12 from rfl, held_end]
    have h := wp_overTiles c Q
      (fun n => sums c (qb m ρ c) (mixed n (fun k => lastOut (landed m ρ c true 11) (landed m ρ c false 11) (tileOf (qb m ρ c) k)
        (tileOf (acc m ρ c 11).1 k) (tileOf (acc m ρ c 11).2 k)) (acc m ρ c 11).1) (acc m ρ c 11).2)
      (lastTile (landed m ρ c true 11) (landed m ρ c false 11))
      (fun Q t u Kp => wp_lastTile c Q _ _ _ _ _ _ (fun _ => rfl) t u Kp) Kp
    rw [mixed_zero, mixed_all] at h
    exact h
  · rw [if_neg hj, held_of_ne m ρ c (j.val + 1) (by omega)]
    have h := wp_overTiles c Q
      (fun n => sums c (qb m ρ c)
        (mixed n (fun k => nextOut (landed m ρ c true j) (landed m ρ c false j) (tileOf (qb m ρ c) k) (tileOf (acc m ρ c j.val).1 k)) (acc m ρ c j.val).1)
        (mixed n (fun k => shapeCast S512x1 (nextSum (landed m ρ c true j) (tileOf (qb m ρ c) k) (tileOf (acc m ρ c j.val).2 k)) shapeCasts_S512x1_S512x1)
          (acc m ρ c j.val).2))
      (nextTile (landed m ρ c true j) (landed m ρ c false j))
      (fun Q t u Kp => wp_nextTile c Q _ _ _ _ _ _ _ (fun _ => rfl) (fun _ => rfl) t u Kp) Kp
    rw [mixed_zero, mixed_zero, mixed_all, mixed_all] at h
    have e : acc m ρ c (j.val + 1) = nextAcc (landed m ρ c true j) (landed m ρ c false j) (qb m ρ c) (acc m ρ c j.val) := by
      show nextAcc (landed m ρ c true (hop j.val)) (landed m ρ c false (hop j.val)) (qb m ρ c) (acc m ρ c j.val) = _
      rw [hop_val]
    rw [e]
    exact h

end Loops

/-! ## What is held, by hop -/

theorem bigSep_put {ι : Type} [DecidableEq ι] {s : Finset ι} {i : ι} (h : i ∉ s) (Φ : ι → sProp (MT nD τ sig Unit (Elt F) ℕ UU ℕ)) :
    bigSep (insert i s) Φ = iprop(Φ i ∗ bigSep s Φ) := BI.bigSep_insert h

abbrev fromN (n : ℕ) : Finset (Fin 12) := Finset.univ.filter fun i : Fin 12 => n ≤ i.val
abbrev upto (n : ℕ) : Finset (Fin 12) := Finset.univ.filter fun i : Fin 12 => i.val < n

theorem upto_succ (j : Fin 12) : upto (j.val + 1) = insert j (upto j.val) := by
  ext i
  simp only [Finset.mem_filter, Finset.mem_univ, true_and, Finset.mem_insert, Fin.ext_iff]
  omega
theorem not_mem_upto (j : Fin 12) : j ∉ upto j.val := by simp
theorem fromN_end (n : ℕ) (h : 12 ≤ n) : fromN n = ∅ := Finset.filter_false_of_mem fun i _ => by omega
theorem upto_end (n : ℕ) (h : 12 ≤ n) : upto n = Finset.univ := Finset.filter_true_of_mem fun i _ => by omega
theorem fromN_zero : fromN 0 = Finset.univ := Finset.filter_true_of_mem fun i _ => Nat.zero_le _
theorem upto_zero : upto 0 = ∅ := Finset.filter_false_of_mem fun i _ => Nat.not_lt_zero _

section Held

local notation "𝕄" => MT nD τ sig Unit (Elt F) ℕ UU ℕ

/-- Of the keys and of the values. -/
def both (Φ : Bool → sProp 𝕄) : sProp 𝕄 := iprop(Φ true ∗ Φ false)

variable (c : Dev nD)

/-- To receive at a hop: the credit to wait for, the cell at its start. -/
def toRecv (i : Fin 12) : sProp 𝕄 :=
  both fun kv => iprop(cred (tallyAt (recvCell c kv i) () N) ∗ atPos ER (recvCell c kv i) 0 ∅ 0)
/-- To send at a hop: the right-hand device's slot and the two ends' duties. -/
def toSend (i : Fin 12) : sProp 𝕄 :=
  both fun kv => iprop((∃ X, owns (nxt c : Thread nD τ) (slotM kv i) fullShare X)
    ∗ dutyTok ER (sendCell c kv i) 0 false ∗ dutyTok ER (recvCell (nxt c) kv i) 0 false)
/-- Once sent at a hop: the credit to wait for. -/
def underway (i : Fin 12) : sProp 𝕄 := both fun kv => cred (tallyAt (sendCell c kv i) () N)
/-- The share of a slot that is not passed on. -/
def kept (i : Fin 12) : PosShare TreeShare := if i.val < 8 then fullShare.left else fullShare
/-- Once received at a hop: the slot, and its cell closed. -/
def received (i : Fin 12) : sProp 𝕄 :=
  both fun kv => iprop(owns (c : Thread nD τ) (slotM kv i) (kept i) (landed m ρ c kv i) ∗ semVal (recvCell c kv i) 0)
/-- To complete a send: the credit, the cell at its start. -/
def toFinish (i : Fin 12) : sProp 𝕄 :=
  both fun kv => iprop(cred (tallyAt (sendCell c kv i) () N) ∗ atPos ER (sendCell c kv i) 0 ∅ 0)
/-- A send complete: its source back, its cell closed. -/
def finished (i : Fin 12) : sProp 𝕄 :=
  both fun kv => iprop(owns (c : Thread nD τ) (srcM kv i) fullShare.right (sent m ρ c kv i) ∗ semVal (sendCell c kv i) 0)

/-- Before hop `n`. -/
def state (n : ℕ) : sProp 𝕄 :=
  iprop(bigSep (fromN n) (toRecv c) ∗ bigSep (fromN (n + 4)) (toSend c) ∗ bigSep (upto n) (received m ρ c) ∗ bigSep (upto (n + 4)) (underway c)
    ∗ held m ρ c n ∗ owing c (owed c (n + 4)))
/-- Before the completion of send `n`. -/
def closing (n : ℕ) : sProp 𝕄 :=
  iprop(bigSep (fromN n) (toFinish c) ∗ bigSep (upto n) (finished m ρ c) ∗ owing c 0)

variable (K : Dev nD × Option Key → ℕ)

/-! ## The rules -/

section Rules

variable {β : Type} (Q : β → sProp (MT nD τ sig Unit (Elt F) ℕ UU ℕ))

theorem slot_set (kv : Bool) (j : Fin 12) : (slotM kv j).view.set = (commM kv).view.setOn (slotR j).set :=
  (View.set_reshape _ _).trans (View.set_slice _ _)

/-- A slot is read through its buffer. -/
theorem wp_slotLoad (kv : Bool) (j : Fin 12) (q : PosShare TreeShare) (X : FVec F S1024x256 .bf16) (Kp : FVec F S1024x256 .bf16 → P F β) :
    owns (c : Thread nD τ) (slotM kv j) q X
      ⊢ iprop((owns (c : Thread nD τ) (slotM kv j) q X -∗ run c (Kp X) Q) -∗ run c (slotLoad kv j Kp) Q) := by
  unfold slotLoad owns
  iintro ⟨%f, %hf, H⟩ Hk
  iapply (wp_load 𝒱₀ (c : Thread nD τ) none Set.univ (m := commM kv) (r := (slotR j).toLoadRect) (S := (slotM kv j).view.set) (q := q) (f := f)
    (by rw [slot_set])) $$ H; iintro H
  have e : shapeCast S1024x256 ((commM kv).view.readAt (Elt F) (slotR j).toLoadRect f : FVec F S1x1024x256 .bf16) shapeCasts_S1x1024x256_S1024x256 = X := by
    rw [← hf]; rfl
  rw [e]
  iapply Hk
  iexists f
  isplitr; · (ipureintro; exact hf)
  iexact H

theorem wp_ownLoad (kv : Bool) (q : PosShare TreeShare) (X : FVec F S4096x256 .bf16) (Kp : FVec F S4096x256 .bf16 → P F β) :
    owns (c : Thread nD τ) (ownM kv) q X
      ⊢ iprop((owns (c : Thread nD τ) (ownM kv) q X -∗ run c (Kp X) Q) -∗ run c (ownLoad kv Kp) Q) := by
  unfold ownLoad owns
  iintro ⟨%f, %hf, H⟩ Hk
  iapply (wp_load 𝒱₀ (c : Thread nD τ) none Set.univ (m := ownM kv) (r := allR.toLoadRect) (S := (ownM kv).view.set) (q := q) (f := f)
    (by exact Finset.map_subset_map.mpr (Finset.subset_univ _))) $$ H; iintro H
  have e : ((ownM kv).view.readAt (Elt F) allR.toLoadRect f : FVec F S4096x256 .bf16) = X := by
    rw [← hf]
    cases kv
    · exact Memref.readAt_unit_zero (Elt F) cc0_scratch2 (funext fun a => by fin_cases a <;> rfl) _ f
    · exact Memref.readAt_unit_zero (Elt F) cc0_scratch1 (funext fun a => by fin_cases a <;> rfl) _ f
  rw [e]
  iapply Hk
  iexists f
  isplitr; · (ipureintro; exact hf)
  iexact H

/-- The two copies of hop `i`. -/
theorem wp_sends (i : Fin 12) (Kp : P F β) :
    iprop(records m ρ K ∗ both (fun kv => owns (c : Thread nD τ) (srcM kv i) fullShare.right (sent m ρ c kv i)) ∗ toSend c i ∗ owing c (owed c i.val))
      ⊢ iprop(((underway c i ∗ owing c (owed c (i.val + 1))) -∗ run c Kp Q) -∗ run c (send c true i (send c false i Kp)) Q) := by
  unfold both toSend underway both
  rw [owed_succ c i]
  iintro ⟨#HR, ⟨Hs₁, Hs₂⟩, ⟨⟨Hd₁, Ht₁, Hu₁⟩, Hd₂, Ht₂, Hu₂⟩, HO⟩ Hk
  iapply (wp_send m ρ K c Q true i (owed c (i.val + 1) + tallyAt (recvCell (nxt c) false i) () N)) $$ [Hs₁ Hd₁ Ht₁ Hu₁ HO]
  · isplitr; · iexact HR
    isplitl [Hs₁]; · iexact Hs₁
    isplitl [Hd₁]; · iexact Hd₁
    isplitl [Ht₁]; · iexact Ht₁
    isplitl [Hu₁]; · iexact Hu₁
    iexact HO
  iintro ⟨Hc₁, HO⟩
  iapply (wp_send m ρ K c Q false i (owed c (i.val + 1))) $$ [Hs₂ Hd₂ Ht₂ Hu₂ HO]
  · isplitr; · iexact HR
    isplitl [Hs₂]; · iexact Hs₂
    isplitl [Hd₂]; · iexact Hd₂
    isplitl [Ht₂]; · iexact Ht₂
    isplitl [Hu₂]; · iexact Hu₂
    iexact HO
  iintro ⟨Hc₂, HO⟩
  iapply Hk
  isplitl [Hc₁ Hc₂]
  · isplitl [Hc₁]; · iexact Hc₁
    iexact Hc₂
  iexact HO

end Rules

theorem src_later (kv : Bool) (i : Fin 12) (h : ¬ i.val < 4) : srcM kv i = slotM kv (before i) := if_neg h
theorem src_first (kv : Bool) (i : Fin 12) (h : i.val < 4) : srcM kv i = chunkM kv i := if_pos h

variable (Q : PUnit → sProp (MT nD τ sig Unit (Elt F) ℕ UU ℕ))

/-- Passing on what arrived at hop `j`, except in the last round. -/
theorem wp_forward (j : Fin 12) (Kp : P F) :
    iprop(records m ρ K ∗ both (fun kv => owns (c : Thread nD τ) (slotM kv j) fullShare (landed m ρ c kv j))
        ∗ bigSep (fromN (j.val + 4)) (toSend c) ∗ bigSep (upto (j.val + 4)) (underway c) ∗ owing c (owed c (j.val + 4)))
      ⊢ iprop(((both (fun kv => owns (c : Thread nD τ) (slotM kv j) (kept j) (landed m ρ c kv j))
          ∗ bigSep (fromN (j.val + 1 + 4)) (toSend c) ∗ bigSep (upto (j.val + 1 + 4)) (underway c) ∗ owing c (owed c (j.val + 1 + 4))) -∗ run c Kp Q)
        -∗ run c (if h : j.val < 8 then send c true ⟨j.val + 4, by omega⟩ (send c false ⟨j.val + 4, by omega⟩ Kp) else Kp) Q) := by
  by_cases h : j.val < 8
  · rw [dif_pos h]
    have hi : j.val + 4 < 12 := by omega
    have eb (kv : Bool) : (owns (c : Thread nD τ) (srcM kv ⟨j.val + 4, hi⟩) fullShare.right (sent m ρ c kv ⟨j.val + 4, hi⟩) : sProp 𝕄)
        = owns (c : Thread nD τ) (slotM kv j) fullShare.right (landed m ρ c kv j) := by
      have e : before ⟨j.val + 4, hi⟩ = j := Fin.ext (Nat.add_sub_cancel _ _)
      rw [src_later kv ⟨j.val + 4, hi⟩ (by simp), ← landed_before m ρ c kv ⟨j.val + 4, hi⟩ (by simp), e]
    have e1 : fromN (j.val + 4) = insert ⟨j.val + 4, hi⟩ (fromN (j.val + 1 + 4)) := by
      rw [show j.val + 1 + 4 = j.val + 4 + 1 from rfl]; exact from_succ ⟨j.val + 4, hi⟩
    have e2 : upto (j.val + 1 + 4) = insert ⟨j.val + 4, hi⟩ (upto (j.val + 4)) := by
      rw [show j.val + 1 + 4 = j.val + 4 + 1 from rfl]; exact upto_succ ⟨j.val + 4, hi⟩
    rw [e1, e2, bigSep_put (by simp), bigSep_put (by simp)]
    unfold kept
    rw [if_pos h]
    unfold both
    iintro ⟨#HR, ⟨Hs₁, Hs₂⟩, ⟨Hd, HD⟩, HC, HO⟩ Hk
    ihave H₁ := (owns_share (c : Thread nD τ) (slotM true j) (PosShare.mem_left_op_right fullShare) (landed m ρ c true j)).1 $$ Hs₁
    ihave H₂ := (owns_share (c : Thread nD τ) (slotM false j) (PosShare.mem_left_op_right fullShare) (landed m ρ c false j)).1 $$ Hs₂
    icases H₁ with ⟨Hl₁, Hr₁⟩
    icases H₂ with ⟨Hl₂, Hr₂⟩
    iapply (wp_sends m ρ c K Q ⟨j.val + 4, hi⟩ Kp) $$ [Hr₁ Hr₂ Hd HO]
    · isplitr; · iexact HR
      isplitl [Hr₁ Hr₂]
      · unfold both
        isplitl [Hr₁]
        · iapply (Entails.of_eq (eb true).symm); iexact Hr₁
        · iapply (Entails.of_eq (eb false).symm); iexact Hr₂
      isplitl [Hd]; · iexact Hd
      iexact HO
    iintro ⟨Hc, HO⟩
    iapply Hk
    isplitl [Hl₁ Hl₂]
    · isplitl [Hl₁]; · iexact Hl₁
      iexact Hl₂
    isplitl [HD]; · iexact HD
    isplitl [Hc HC]
    · isplitl [Hc]; · iexact Hc
      iexact HC
    iexact HO
  · rw [dif_neg h, fromN_end (j.val + 4) (by omega), fromN_end (j.val + 1 + 4) (by omega), upto_end (j.val + 4) (by omega), upto_end (j.val + 1 + 4) (by omega),
      owed_end c (j.val + 4) (by omega), owed_end c (j.val + 1 + 4) (by omega)]
    unfold kept
    rw [if_neg h]
    iintro ⟨#HR, H⟩ Hk
    iapply Hk
    iexact H

/-- The phase of hop `j`. -/
theorem wp_phase (j : Fin 12) (Kp : P F) :
    iprop(records m ρ K ∗ levAts L lv ∗ state m ρ c j.val)
      ⊢ iprop((state m ρ c (j.val + 1) -∗ run c Kp Q) -∗ run c (phase c j Kp) Q) := by
  unfold state phase
  rw [show fromN j.val = insert j (fromN (j.val + 1)) from from_succ j, upto_succ j, bigSep_put (not_mem_from j), bigSep_put (not_mem_upto j)]
  unfold toRecv received both
  iintro ⟨#HR, #Hlev, ⟨⟨⟨Hc₁, Ha₁⟩, Hc₂, Ha₂⟩, HRcv⟩, HSnd, HDon, HCmp, Hheld, HO⟩ Hk
  iapply (wp_recvWait m ρ K c Q true j (j.val + 4) (by omega)) $$ [Hc₁ Ha₁ HO]
  · isplitr; · iexact HR
    isplitr; · iexact Hlev
    isplitl [Hc₁]; · iexact Hc₁
    isplitl [Ha₁]; · iexact Ha₁
    iexact HO
  iintro ⟨Hs₁, Hz₁, HO⟩
  iapply (wp_recvWait m ρ K c Q false j (j.val + 4) (by omega)) $$ [Hc₂ Ha₂ HO]
  · isplitr; · iexact HR
    isplitr; · iexact Hlev
    isplitl [Hc₂]; · iexact Hc₂
    isplitl [Ha₂]; · iexact Ha₂
    iexact HO
  iintro ⟨Hs₂, Hz₂, HO⟩
  iapply (wp_forward m ρ c K Q j) $$ [Hs₁ Hs₂ HSnd HCmp HO]
  · isplitr; · iexact HR
    isplitl [Hs₁ Hs₂]
    · unfold both
      isplitl [Hs₁]; · iexact Hs₁
      iexact Hs₂
    isplitl [HSnd]; · iexact HSnd
    isplitl [HCmp]; · iexact HCmp
    iexact HO
  unfold both
  iintro ⟨⟨Hs₁, Hs₂⟩, HSnd, HCmp, HO⟩
  iapply (wp_slotLoad c Q true j (kept j)) $$ Hs₁; iintro Hs₁
  iapply (wp_slotLoad c Q false j (kept j)) $$ Hs₂; iintro Hs₂
  iapply (wp_nextLoop m ρ c Q j) $$ Hheld; iintro Hheld
  iapply Hk
  isplitl [HRcv]; · iexact HRcv
  isplitl [HSnd]; · iexact HSnd
  isplitl [Hs₁ Hs₂ Hz₁ Hz₂ HDon]
  · isplitl [Hs₁ Hs₂ Hz₁ Hz₂]
    · isplitl [Hs₁ Hz₁]
      · isplitl [Hs₁]; · iexact Hs₁
        iexact Hz₁
      · isplitl [Hs₂]; · iexact Hs₂
        iexact Hz₂
    iexact HDon
  isplitl [HCmp]; · iexact HCmp
  isplitl [Hheld]; · iexact Hheld
  iexact HO

/-- The completion of send `j`. -/
theorem wp_finish (j : Fin 12) (Kp : P F) :
    iprop(records m ρ K ∗ levAts L lv ∗ closing m ρ c j.val)
      ⊢ iprop((closing m ρ c (j.val + 1) -∗ run c Kp Q) -∗ run c (finish j Kp) Q) := by
  unfold closing finish
  rw [show fromN j.val = insert j (fromN (j.val + 1)) from from_succ j, upto_succ j, bigSep_put (not_mem_from j), bigSep_put (not_mem_upto j)]
  unfold toFinish finished both
  iintro ⟨#HR, #Hlev, ⟨⟨⟨Hc₁, Ha₁⟩, Hc₂, Ha₂⟩, HTo⟩, HDon, HO⟩ Hk
  iapply (wp_sendWait m ρ K c Q true j) $$ [Hc₁ Ha₁ HO]
  · isplitr; · iexact HR
    isplitr; · iexact Hlev
    isplitl [Hc₁]; · iexact Hc₁
    isplitl [Ha₁]; · iexact Ha₁
    iexact HO
  iintro ⟨Hs₁, Hz₁, HO⟩
  iapply (wp_sendWait m ρ K c Q false j) $$ [Hc₂ Ha₂ HO]
  · isplitr; · iexact HR
    isplitr; · iexact Hlev
    isplitl [Hc₂]; · iexact Hc₂
    isplitl [Ha₂]; · iexact Ha₂
    iexact HO
  iintro ⟨Hs₂, Hz₂, HO⟩
  iapply Hk
  isplitl [HTo]; · iexact HTo
  isplitr [HO]
  · isplitr [HDon]
    · isplitl [Hs₁ Hz₁]
      · isplitl [Hs₁]; · iexact Hs₁
        iexact Hz₁
      · isplitl [Hs₂]; · iexact Hs₂
        iexact Hz₂
    iexact HDon
  iexact HO

/-- Steps over the hops, by an invariant of the hops done. -/
theorem wp_hops (I : ℕ → sProp (MT nD τ sig Unit (Elt F) ℕ UU ℕ)) (R : sProp (MT nD τ sig Unit (Elt F) ℕ UU ℕ)) [BI.Persistent R] (step : Fin 12 → P F → P F)
    (h : ∀ j Kp, iprop(R ∗ I j.val) ⊢ iprop((I (j.val + 1) -∗ run c Kp Q) -∗ run c (step j Kp) Q)) (Kp : P F) :
    iprop(R ∗ I 0) ⊢ iprop((I 12 -∗ run c Kp Q) -∗ run c (hops.foldr step Kp) Q) := by
  have key : ∀ n, n ≤ 12 → iprop(R ∗ I (12 - n)) ⊢ iprop((I 12 -∗ run c Kp Q) -∗ run c ((hops.drop (12 - n)).foldr step Kp) Q) := by
    intro n
    induction n with
    | zero =>
      intro _
      iintro ⟨-, HI⟩ Hk
      iapply Hk; iexact HI
    | succ n ih =>
      intro hn
      have hlt : 12 - (n + 1) < 12 := by omega
      have e : hops.drop (12 - (n + 1)) = (⟨12 - (n + 1), hlt⟩ : Fin 12) :: hops.drop (12 - n) := by
        rw [List.drop_eq_getElem_cons (show 12 - (n + 1) < hops.length from hlt), show 12 - (n + 1) + 1 = 12 - n by omega]
        congr 1
        have : ∀ i : Fin 12, hops[i.val] = i := by decide
        exact this ⟨12 - (n + 1), hlt⟩
      rw [e, List.foldr_cons]
      iintro ⟨#HR, HI⟩ Hk
      iapply (h ⟨12 - (n + 1), hlt⟩) $$ [HI]
      · isplitr; · iexact HR
        iexact HI
      iintro HI
      iapply (ih (by omega)) $$ [HI]
      · isplitr; · iexact HR
        rw [show 12 - n = 12 - (n + 1) + 1 by omega]
        iexact HI
      iexact Hk
  exact key 12 (Nat.le_refl _)

end Held

end Cert.KernelIdeal.Ring

end
-- ==== Proof.Buffers.lean ====
/-
  The landing buffers by slots, the own rows by chunks, and the copies a device stages.
-/
module

public import proofs.«01_k».proof.Proof.Phases

@[expose] public section

set_option maxRecDepth 65536

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ UU ℕ

/-! ## Conjunctions over the hops -/

theorem each {ι : Type} {s : Finset ι} {Φ Ψ : ι → sProp 𝕄} (h : ∀ i ∈ s, Φ i ⊢ Ψ i) : bigSep s Φ ⊢ bigSep s Ψ := BI.bigSep_mono h

/-- Over the first hops and over the others. -/
theorem bigSep_two (a b : ℕ) (h : a + b = 12) (Φ : Fin 12 → sProp 𝕄) :
    bigSep Finset.univ Φ = iprop(bigSep Finset.univ (fun i : Fin a => Φ (Fin.cast h (Fin.castAdd b i)))
      ∗ bigSep Finset.univ (fun i : Fin b => Φ (Fin.cast h (Fin.natAdd a i)))) := by
  rw [BI.bigSep_univ_equiv (finSumFinEquiv.trans (finCongr h)) Φ]
  exact BI.bigSep_univ_sum _

theorem bigSep_both (s : Finset (Fin 12)) (Φ : Fin 12 → Bool → sProp 𝕄) :
    bigSep s (fun i => both (Φ i)) = both fun kv => bigSep s fun i => Φ i kv := by
  unfold both
  exact bigSep_sep' s _ _

theorem both_mono {Φ Ψ : Bool → sProp 𝕄} (h : ∀ kv, Φ kv ⊢ Ψ kv) : both Φ ⊢ both Ψ := by
  unfold both
  exact BIClass.sep_mono (h true) (h false)

theorem both_sep (Φ Ψ : Bool → sProp 𝕄) : iprop(both Φ ∗ both Ψ) ⊢ both fun kv => iprop(Φ kv ∗ Ψ kv) := by
  unfold both
  iintro ⟨⟨H₁, H₂⟩, H₃, H₄⟩
  isplitl [H₁ H₃]
  · isplitl [H₁]; · iexact H₁
    iexact H₃
  isplitl [H₂]; · iexact H₂
  iexact H₄

theorem sep_both (Φ Ψ : Bool → sProp 𝕄) : (both fun kv => iprop(Φ kv ∗ Ψ kv)) ⊢ iprop(both Φ ∗ both Ψ) := by
  unfold both
  iintro ⟨⟨H₁, H₃⟩, H₂, H₄⟩
  isplitl [H₁ H₂]
  · isplitl [H₁]; · iexact H₁
    iexact H₂
  isplitl [H₃]; · iexact H₃
  iexact H₄

/-! ## The landing buffers by slots -/

theorem slots_disjoint (i j : Fin 12) (h : i ≠ j) : Disjoint (slotR i).set (slotR j).set := by
  have hv : i.val ≠ j.val := fun e => h (Fin.ext e)
  have h0 (a : Fin 12) : slotOff a 0 = a.val / 4 := rfl
  have h1 (a : Fin 12) : slotOff a 1 = 1024 * (a.val % 4) := rfl
  have s0 : S1x1024x256.size 0 = 1 := rfl
  have s1 : S1x1024x256.size 1 = 1024 := rfl
  by_cases hq : i.val / 4 = j.val / 4
  · exact Rect.unit_disjoint 1 (by rw [h1, h1, s1]; omega)
  · exact Rect.unit_disjoint 0 (by rw [h0, h0, s0]; omega)

theorem slots_cover : (Finset.univ : Finset (Fin 12)).biUnion (fun j => (slotR j).set) = Finset.univ := by
  refine Finset.eq_univ_iff_forall.mpr fun x => Finset.mem_biUnion.mpr ?_
  have h0 : (x 0 : ℕ) < 3 := (x 0).isLt
  have h1 : (x 1 : ℕ) < 4096 := (x 1).isLt
  have h2 : (x 2 : ℕ) < 256 := (x 2).isLt
  refine ⟨⟨4 * (x 0 : ℕ) + (x 1 : ℕ) / 1024, by omega⟩, Finset.mem_univ _, Rect.mem_set_unit.mpr fun a => ?_⟩
  match a with
  | 0 => show (4 * (x 0 : ℕ) + (x 1 : ℕ) / 1024) / 4 ≤ (x 0 : ℕ) ∧ (x 0 : ℕ) < (4 * (x 0 : ℕ) + (x 1 : ℕ) / 1024) / 4 + 1; omega
  | 1 =>
    show 1024 * ((4 * (x 0 : ℕ) + (x 1 : ℕ) / 1024) % 4) ≤ (x 1 : ℕ) ∧ (x 1 : ℕ) < 1024 * ((4 * (x 0 : ℕ) + (x 1 : ℕ) / 1024) % 4) + 1024
    omega
  | 2 => show 0 ≤ (x 2 : ℕ) ∧ (x 2 : ℕ) < 0 + 256; omega

/-- A landing buffer as its slots. -/
theorem comm_split (c : Dev nD) (kv : Bool) (X : FVec F S3x4096x256 .bf16) :
    (owns (c : Thread nD τ) (commM kv) fullShare X : sProp 𝕄)
      ⊢ bigSep Finset.univ fun j : Fin 12 => iprop(∃ Y, owns (c : Thread nD τ) (slotM kv j) fullShare Y) := by
  refine (owns_rects (Val := Elt F) (c : Thread nD τ) (commM kv) fullShare slotR (fun _ _ => rfl) slots_disjoint slots_cover X).trans (each fun j _ => ?_)
  unfold owns
  iintro ⟨%f, -, H⟩
  iexists ((slotM kv j).view.read (Elt F) f), f
  isplitr; · (ipureintro; rfl)
  have e : (slotM kv j).view.set = ((commM kv).slice (slotR j) (fun _ => rfl)).view.set := View.set_reshape _ _
  rw [e]
  iexact H

/-- The slots as a landing buffer. -/
theorem comm_join (c : Dev nD) (kv : Bool) (f₀ : Buf (Elt F) ((commM kv).view.loc (c : Thread nD τ))) :
    (bigSep Finset.univ fun j : Fin 12 => iprop(∃ Y, owns (c : Thread nD τ) (slotM kv j) fullShare Y))
      ⊢ (iprop(∃ X, owns (c : Thread nD τ) (commM kv) fullShare X) : sProp 𝕄) := by
  haveI : Nonempty (Buf (Elt F) ((commM kv).view.loc (c : Thread nD τ))) := ⟨f₀⟩
  have h1 (j : Fin 12) : (iprop(∃ Y, owns (c : Thread nD τ) (slotM kv j) fullShare Y) : sProp 𝕄)
      ⊢ iprop(∃ f : Buf (Elt F) ((commM kv).view.loc (c : Thread nD τ)), (commM kv).view.loc (c : Thread nD τ) ↦[(commM kv).view.setOn (slotR j).set]{fullShare} f) := by
    unfold owns
    iintro ⟨%Y, %f, -, H⟩
    iexists f
    rw [← slot_set]
    iexact H
  refine (each fun j _ => h1 j).trans ((BI.bigSep_exists_pi Finset.univ _).trans ?_)
  iintro ⟨%fs, H⟩
  ihave H' := (pointsTo_biUnion_join (ℓ := (commM kv).view.loc (c : Thread nD τ)) (q := fullShare) Finset.univ (fun j : Fin 12 => (commM kv).view.setOn (slotR j).set) fs f₀
    (fun i _ j _ hij => (Finset.disjoint_map _).mpr (slots_disjoint i j hij))) $$ H
  icases H' with ⟨%g, -, H⟩
  iexists ((commM kv).view.read (Elt F) g)
  iapply (owns_intro (c : Thread nD τ) (commM kv) fullShare g)
  have e : (commM kv).view.set = Finset.univ.biUnion fun j : Fin 12 => (commM kv).view.setOn (slotR j).set := by
    refine Finset.ext fun i => ⟨fun hi => ?_, fun hi => ?_⟩
    · obtain ⟨x, -, rfl⟩ := Finset.mem_map.mp hi
      obtain ⟨j, hj, hx⟩ := Finset.mem_biUnion.mp (slots_cover.symm ▸ Finset.mem_univ x)
      exact Finset.mem_biUnion.mpr ⟨j, hj, Finset.mem_map_of_mem _ hx⟩
    · obtain ⟨j, -, hx⟩ := Finset.mem_biUnion.mp hi
      exact Finset.map_subset_map.mpr (Finset.subset_univ _) hx
  rw [e]
  iexact H

/-! ## The own rows by chunks -/

abbrev first (i : Fin 4) : Fin 12 := Fin.cast (rfl : 4 + 8 = 12) (Fin.castAdd 8 i)

theorem chunks_disjoint (i j : Fin 4) (h : i ≠ j) : Disjoint (ownR (first i)).set (ownR (first j)).set := by
  have hv : i.val ≠ j.val := fun e => h (Fin.ext e)
  have h0 (a : Fin 4) : ownOff (first a) 0 = 1024 * (a.val % 4) := rfl
  have s0 : S1024x256.size 0 = 1024 := rfl
  exact Rect.unit_disjoint 0 (by rw [h0, h0, s0]; omega)

theorem chunks_cover : (Finset.univ : Finset (Fin 4)).biUnion (fun j => (ownR (first j)).set) = Finset.univ := by
  refine Finset.eq_univ_iff_forall.mpr fun x => Finset.mem_biUnion.mpr ?_
  have h0 : (x 0 : ℕ) < 4096 := (x 0).isLt
  have h1 : (x 1 : ℕ) < 256 := (x 1).isLt
  refine ⟨⟨(x 0 : ℕ) / 1024, by omega⟩, Finset.mem_univ _, Rect.mem_set_unit.mpr fun a => ?_⟩
  match a with
  | 0 => show 1024 * ((x 0 : ℕ) / 1024 % 4) ≤ (x 0 : ℕ) ∧ (x 0 : ℕ) < 1024 * ((x 0 : ℕ) / 1024 % 4) + 1024; omega
  | 1 => show 0 ≤ (x 1 : ℕ) ∧ (x 1 : ℕ) < 0 + 256; omega

theorem sent_first (c : Dev nD) (kv : Bool) (i : Fin 4) : sent m ρ c kv (first i) = fun j => rnd m ρ c kv ((ownR (first i)).emb j) := by
  have h : (first i).val / 4 = 0 := Nat.div_eq_of_lt i.isLt
  unfold sent
  rw [h, back_zero]
  rfl

/-- A share of the own rows as the sources of the first round. -/
theorem own_split (c : Dev nD) (kv : Bool) (q : PosShare TreeShare) :
    (owns (c : Thread nD τ) (ownM kv) q (rnd m ρ c kv) : sProp 𝕄)
      ⊢ bigSep Finset.univ fun i : Fin 4 => owns (c : Thread nD τ) (srcM kv (first i)) q (sent m ρ c kv (first i)) := by
  refine (owns_rects (Val := Elt F) (c : Thread nD τ) (ownM kv) q (fun i => ownR (first i)) (fun _ _ => rfl) chunks_disjoint chunks_cover (rnd m ρ c kv)).trans
    (each fun i _ => Entails.of_eq ?_)
  rw [src_first kv (first i) i.isLt, sent_first]

theorem own_join (c : Dev nD) (kv : Bool) (q : PosShare TreeShare) :
    (bigSep Finset.univ fun i : Fin 4 => owns (c : Thread nD τ) (srcM kv (first i)) q (sent m ρ c kv (first i)))
      ⊢ (owns (c : Thread nD τ) (ownM kv) q (rnd m ρ c kv) : sProp 𝕄) := by
  haveI : ∀ e, Nonempty (Elt F e) := fun e => ⟨by cases e <;> first | exact Scalar.ofBits _ 0 | exact (0 : BitVec _)⟩
  refine BIBase.Entails.trans (each fun i _ => Entails.of_eq ?_)
    (owns_of_rects (Val := Elt F) (c : Thread nD τ) (ownM kv) q (fun i => ownR (first i)) (fun _ _ => rfl) chunks_disjoint chunks_cover (rnd m ρ c kv))
  rw [src_first kv (first i) i.isLt, sent_first]

/-! ## A staged copy -/

theorem allR_idx (x : allR.toLoadRect.shape.Idx) : allR.toLoadRect.idx x = x :=
  funext fun a => Fin.ext (by
    show (![0, 0] : Fin 2 → ℕ) a + 1 * (x a : ℕ) = x a
    fin_cases a <;> simp)

section Staged

variable (c : Dev nD) (Q : PUnit → sProp (MT nD τ sig Unit (Elt F) ℕ UU ℕ))

theorem wp_roundInto (src : Memref sig .tc .vmem S4096x256 .f32) (dst : Memref sig .tc .vmem S4096x256 .bf16) (hdst : dst.IsWhole)
    (f : FVec F S4096x256 .f32 → FVec F S4096x256 .bf16) (x : FVec F S4096x256 .f32) (Kp : P F) :
    iprop(owns (c : Thread nD τ) src fullShare x ∗ ∃ y, owns (c : Thread nD τ) dst fullShare y)
      ⊢ iprop(((owns (c : Thread nD τ) src fullShare x ∗ owns (c : Thread nD τ) dst fullShare (f x)) -∗ run c Kp Q)
        -∗ run c (roundInto src dst hdst f Kp) Q) := by
  unfold roundInto owns
  iintro ⟨⟨%s, %hs, Hs⟩, %y, %d, -, Hd⟩ Hk
  iapply (wp_load 𝒱₀ (c : Thread nD τ) none Set.univ (m := src) (r := allR.toLoadRect) (S := src.view.set)
    (by exact Finset.map_subset_map.mpr (Finset.subset_univ _))) $$ Hs; iintro Hs
  iapply (wp_load 𝒱₀ (c : Thread nD τ) none Set.univ (m := dst) (r := allR.toLoadRect) (S := dst.view.set)
    (by exact Finset.map_subset_map.mpr (Finset.subset_univ _))) $$ Hd; iintro Hd
  iapply (wp_store 𝒱₀ (c : Thread nD τ) none Set.univ (m := dst) (r := allR) (Mk := Finset.univ) (S := dst.view.set)
    (by rw [View.setOn_univ]; exact View.set_slice_subset _ _)) $$ Hd; iintro Hd
  have e : (src.view.readAt (Elt F) allR.toLoadRect s : FVec F S4096x256 .f32) = x := by
    rw [← hs]; exact funext fun i => congrArg (src.view.read (Elt F) s) (allR_idx i)
  rw [e]
  iapply Hk
  isplitl [Hs]
  · iexists s
    isplitr; · (ipureintro; exact hs)
    iexact Hs
  iexists _
  isplitr
  rotate_left
  · iexact Hd
  · ipureintro
    refine funext fun i => ?_
    have h := View.read_write_of_mem (Val := Elt F) (v := (dst.access allR : View sig .tc _ _ _)) (f := d) (w := f x) (M := Finset.univ) (Finset.mem_univ i)
    rw [← h]
    exact congrArg (dst.view.read (Elt F) _) (allR_idx i).symm

end Staged

end Cert.KernelIdeal.Ring

end
-- ==== Proof.Body.lean ====
/-
  The kernel body of one device, from what it is launched with to its result.
-/
module

public import proofs.«01_k».proof.Proof.Buffers

@[expose] public section

set_option maxRecDepth 65536

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ UU ℕ

variable (c : Dev nD) (K : Dev nD × Option Key → ℕ) (Q : PUnit → sProp (MT nD τ sig Unit (Elt F) ℕ UU ℕ))

/-- The duties a device pays at a hop. -/
def duties (i : Fin 12) : sProp 𝕄 :=
  both fun kv => iprop(dutyTok ER (sendCell c kv i) 0 false ∗ dutyTok ER (recvCell (nxt c) kv i) 0 false)
/-- Its sending cells at their start. -/
def sendPos (i : Fin 12) : sProp 𝕄 := both fun kv => atPos ER (sendCell c kv i) 0 ∅ 0

/-- A device's part in the handshake and in the hops. -/
def tickets : sProp 𝕄 :=
  iprop((atPos ER (barCell c) 0 ∅ 0 ∗ cred (tallyAt (barCell c) () 2) ∗ dutyTok ER (barCell (prv c)) 0 true ∗ dutyTok ER (barCell (nxt c)) 0 false)
    ∗ bigSep Finset.univ (toRecv c) ∗ bigSep Finset.univ (duties c) ∗ bigSep Finset.univ (sendPos c))

/-- Its input blocks as staged. -/
def inputs : sProp 𝕄 :=
  iprop(owns (c : Thread nD τ) qM fullShare (xq m ρ c : FVec F S4096x256 .f32) ∗ owns (c : Thread nD τ) kM fullShare (xk m ρ c : FVec F S4096x256 .f32)
    ∗ owns (c : Thread nD τ) vM fullShare (xv m ρ c : FVec F S4096x256 .f32))
/-- Its own buffers and its landing buffers, at any contents. -/
def blanks : sProp 𝕄 :=
  iprop((∃ y, owns (c : Thread nD τ) qbM fullShare y) ∗ (both fun kv => iprop(∃ y, owns (c : Thread nD τ) (ownM kv) fullShare y))
    ∗ both fun kv => iprop(∃ X, owns (c : Thread nD τ) (commM kv) fullShare X))
/-- The two sums' buffers, at any contents. -/
def blankSums : sProp 𝕄 :=
  iprop((∃ o, owns (c : Thread nD τ) oM fullShare o) ∗ ∃ l, owns (c : Thread nD τ) lM fullShare l)
/-- The share of its own rows it reads from. -/
def ownKept : sProp 𝕄 := both fun kv => owns (c : Thread nD τ) (ownM kv) fullShare.left (rnd m ρ c kv)

/-! ## The first round -/

theorem from_put (j : Fin 12) (Φ : Fin 12 → sProp 𝕄) : bigSep (fromN j.val) Φ = iprop(Φ j ∗ bigSep (fromN (j.val + 1)) Φ) := by
  rw [show fromN j.val = insert j (fromN (j.val + 1)) from from_succ j, bigSep_put (not_mem_from j)]
theorem upto_put (j : Fin 12) (Φ : Fin 12 → sProp 𝕄) : bigSep (upto (j.val + 1)) Φ = iprop(Φ j ∗ bigSep (upto j.val) Φ) := by
  rw [upto_succ, bigSep_put (not_mem_upto j)]

theorem from_four (Φ : Fin 12 → sProp 𝕄) : bigSep Finset.univ Φ = iprop(Φ 0 ∗ Φ 1 ∗ Φ 2 ∗ Φ 3 ∗ bigSep (fromN 4) Φ) := by
  have e₀ : bigSep (fromN 0) Φ = iprop(Φ 0 ∗ bigSep (fromN 1) Φ) := from_put 0 Φ
  have e₁ : bigSep (fromN 1) Φ = iprop(Φ 1 ∗ bigSep (fromN 2) Φ) := from_put 1 Φ
  have e₂ : bigSep (fromN 2) Φ = iprop(Φ 2 ∗ bigSep (fromN 3) Φ) := from_put 2 Φ
  have e₃ : bigSep (fromN 3) Φ = iprop(Φ 3 ∗ bigSep (fromN 4) Φ) := from_put 3 Φ
  rw [← fromN_zero, e₀, e₁, e₂, e₃]

theorem upto_four (Φ : Fin 12 → sProp 𝕄) : bigSep (upto 4) Φ = iprop(Φ 3 ∗ Φ 2 ∗ Φ 1 ∗ Φ 0 ∗ emp) := by
  have e₀ : bigSep (upto 1) Φ = iprop(Φ 0 ∗ bigSep (upto 0) Φ) := upto_put 0 Φ
  have e₁ : bigSep (upto 2) Φ = iprop(Φ 1 ∗ bigSep (upto 1) Φ) := upto_put 1 Φ
  have e₂ : bigSep (upto 3) Φ = iprop(Φ 2 ∗ bigSep (upto 2) Φ) := upto_put 2 Φ
  have e₃ : bigSep (upto 4) Φ = iprop(Φ 3 ∗ bigSep (upto 3) Φ) := upto_put 3 Φ
  rw [e₃, e₂, e₁, e₀, upto_zero]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The eight copies of the first round. -/
theorem wp_firstSends (Kp : P F) :
    iprop(records m ρ K ∗ (bigSep Finset.univ fun i : Fin 4 => both fun kv => owns (c : Thread nD τ) (srcM kv (first i)) fullShare.right (sent m ρ c kv (first i)))
        ∗ bigSep Finset.univ (toSend c) ∗ owing c (owed c 0))
      ⊢ iprop(((bigSep (fromN 4) (toSend c) ∗ bigSep (upto 4) (underway c) ∗ owing c (owed c 4)) -∗ run c Kp Q)
        -∗ run c (send c true 0 <| send c false 0 <| send c true 1 <| send c false 1 <|
            send c true 2 <| send c false 2 <| send c true 3 <| send c false 3 <| Kp) Q) := by
  rw [from_four, upto_four, bigSep_four]
  iintro ⟨#HR, ⟨S₀, S₁, S₂, S₃⟩, ⟨D₀, D₁, D₂, D₃, HD⟩, HO⟩ Hk
  iapply (wp_sends m ρ c K Q 0) $$ [S₀ D₀ HO]
  · isplitr; · iexact HR
    isplitl [S₀]; · iexact S₀
    isplitl [D₀]; · iexact D₀
    iexact HO
  iintro ⟨C₀, HO⟩
  iapply (wp_sends m ρ c K Q 1) $$ [S₁ D₁ HO]
  · isplitr; · iexact HR
    isplitl [S₁]; · iexact S₁
    isplitl [D₁]; · iexact D₁
    iexact HO
  iintro ⟨C₁, HO⟩
  iapply (wp_sends m ρ c K Q 2) $$ [S₂ D₂ HO]
  · isplitr; · iexact HR
    isplitl [S₂]; · iexact S₂
    isplitl [D₂]; · iexact D₂
    iexact HO
  iintro ⟨C₂, HO⟩
  iapply (wp_sends m ρ c K Q 3) $$ [S₃ D₃ HO]
  · isplitr; · iexact HR
    isplitl [S₃]; · iexact S₃
    isplitl [D₃]; · iexact D₃
    iexact HO
  iintro ⟨C₃, HO⟩
  iapply Hk
  isplitl [HD]; · iexact HD
  isplitr [HO]
  · isplitl [C₃]; · iexact C₃
    isplitl [C₂]; · iexact C₂
    isplitl [C₁]; · iexact C₁
    isplitl [C₀]; · iexact C₀
    iempintro
  iexact HO

/-- The right-hand device's landing buffers and the duties make up what is needed to send. -/
theorem toSend_intro : iprop((both fun kv => iprop(∃ X, owns (nxt c : Thread nD τ) (commM kv) fullShare X)) ∗ bigSep Finset.univ (duties c))
    ⊢ (bigSep Finset.univ (toSend c) : sProp 𝕄) := by
  have h1 : (both fun kv => iprop(∃ X, owns (nxt c : Thread nD τ) (commM kv) fullShare X) : sProp 𝕄)
      ⊢ bigSep Finset.univ fun j : Fin 12 => both fun kv => iprop(∃ Y, owns (nxt c : Thread nD τ) (slotM kv j) fullShare Y) := by
    rw [bigSep_both]
    refine both_mono fun kv => ?_
    iintro ⟨%X, H⟩
    iapply (comm_split (nxt c) kv X); iexact H
  refine (BIClass.sep_mono h1 (BI.Entails.refl _)).trans ?_
  rw [← bigSep_sep']
  exact each fun j _ => both_sep _ _

/-- Both own blocks, the one share kept, the other split into the first round's sources. -/
theorem own_shares : (both fun kv => owns (c : Thread nD τ) (ownM kv) fullShare (rnd m ρ c kv))
    ⊢ iprop(ownKept m ρ c ∗ bigSep Finset.univ fun i : Fin 4 => both fun kv => owns (c : Thread nD τ) (srcM kv (first i)) fullShare.right (sent m ρ c kv (first i))) := by
  have h1 (kv : Bool) : owns (c : Thread nD τ) (ownM kv) fullShare (rnd m ρ c kv)
      ⊢ (iprop(owns (c : Thread nD τ) (ownM kv) fullShare.left (rnd m ρ c kv)
        ∗ bigSep Finset.univ fun i : Fin 4 => owns (c : Thread nD τ) (srcM kv (first i)) fullShare.right (sent m ρ c kv (first i))) : sProp 𝕄) := by
    iintro H
    ihave H' := (owns_share (c : Thread nD τ) (ownM kv) (PosShare.mem_left_op_right fullShare) (rnd m ρ c kv)).1 $$ H
    icases H' with ⟨Hl, Hr⟩
    isplitl [Hl]; · iexact Hl
    iapply (own_split m ρ c kv fullShare.right); iexact Hr
  refine (both_mono h1).trans ((sep_both _ _).trans (BIClass.sep_mono (BI.Entails.refl _) (Entails.of_eq ?_)))
  unfold both
  rw [← bigSep_sep']

/-! ## The opening -/

theorem signal_eq {β : Type} (d : Dev nD) (Kp : P F β) :
    (semSignalWord d barS 1#32 >>= fun _ => Kp) = (.op (.semSignal (Dev.tc d : Thread nD τ) barS 1) fun _ => Kp : P F β) := rfl
theorem wait_eq {β : Type} (Kp : P F β) :
    (semWaitWord barS 2#32 >>= fun _ => Kp) = (.op (.semWait barS 2) fun _ => Kp : P F β) := rfl

/-- From the launch to the first phase. -/
theorem wp_opening (Kp : Dev nD → P F) :
    iprop(records m ρ K ∗ levAts L lv ∗ tickets c ∗ inputs m ρ c ∗ blanks c ∗ blankSums c ∗ owing c (O₀ c))
      ⊢ iprop(((semVal (barCell c) 0 ∗ inputs m ρ c ∗ ownKept m ρ c ∗ bigSep Finset.univ (sendPos c) ∗ state m ρ c 0) -∗ run c (Kp c) Q)
        -∗ run c (opening Kp) Q) := by
  unfold opening run tickets inputs blanks blankSums
  rw [wp_deviceId]
  iintro ⟨#HR, #Hlev, ⟨⟨Hat, Hcb, Htp, Htn⟩, Hrecv, Hdut, Hpos⟩, ⟨Hq, Hk, Hv⟩, ⟨Hqb, Hown, Hcomm⟩, ⟨⟨%o, Ho⟩, %l, Hl⟩, HO⟩ Hgo
  unfold both owing
  icases Hown with ⟨Hkb, Hvb⟩
  icases HO with ⟨%W, HO⟩
  iapply (wp_roundInto c Q qM qbM (Memref.isWhole_whole _) k0_pay138 (xq m ρ c)) $$ [Hq Hqb]
  · isplitl [Hq]; · iexact Hq
    iexact Hqb
  iintro ⟨Hq, Hqb⟩
  iapply (wp_roundInto c Q kM (ownM true) (own_whole true) k0_pay139 (xk m ρ c)) $$ [Hk Hkb]
  · isplitl [Hk]; · iexact Hk
    iexact Hkb
  iintro ⟨Hk, Hkb⟩
  iapply (wp_roundInto c Q vM (ownM false) (own_whole false) k0_pay140 (xv m ρ c)) $$ [Hv Hvb]
  · isplitl [Hv]; · iexact Hv
    iexact Hvb
  iintro ⟨Hv, Hvb⟩
  rw [signal_eq, signal_eq, wait_eq, dev1_eq c, dev2_eq c]
  unfold O₀
  iapply (Rounds.wp_signal 𝒱₀ ER (Rd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO Htp Hcomm]
  · isplitr; · iapply (inv_at m ρ K (prv c, none)); iexact HR
    isplitl [HO]; · iexact HO
    isplitl [Htp]; · iexact Htp
    isplitl [Hcomm]
    · rw [payload_bar_true]; unfold barPay; rw [nxt_prv]
      iexact Hcomm
    iapply (reached_at m ρ K (prv c, none)); iexact HR
  iintro HO
  unfold O₁
  iapply (Rounds.wp_signal 𝒱₀ ER (Rd m ρ) (c : Thread nD τ) none (dst := (nxt c : Thread nD τ)) (κ := K (nxt c, none))
      (d := false) (by rw [duties_bar]; exact Finset.mem_univ _) ((amount_bar m ρ (nxt c) false).trans (by decide)) () (owed c 0) rfl)
    $$ [HO Htn]
  · isplitr; · iapply (inv_at m ρ K (nxt c, none)); iexact HR
    isplitl [HO]; · iexact HO
    isplitl [Htn]; · iexact Htn
    isplitr; · rw [payload_bar_false]; iempintro
    iapply (reached_at m ρ K (nxt c, none)); iexact HR
  iintro HO
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar])) $$ [Hcb HO Hat]
  · isplitr; · iapply (inv_at m ρ K (c, none)); iexact HR
    isplitl [Hcb]; · iexact Hcb
    isplitl [HO]; · iexact HO
    isplitr; · iapply (mayWait_bar c); iexact Hlev
    iexact Hat
  iintro ⟨HO, Hat, -, Hpay⟩
  ihave Hp := (Entails.of_eq (rest_bar m ρ c)) $$ Hpay
  icases Hp with ⟨-, Hp⟩
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  ihave Hsend := (toSend_intro (F := F) c) $$ [Hp Hdut]
  · isplitl [Hp]; · unfold both; unfold barPay; iexact Hp
    iexact Hdut
  ihave Hsh := (own_shares m ρ c) $$ [Hkb Hvb]
  · unfold both
    isplitl [Hkb]; · iexact Hkb
    iexact Hvb
  icases Hsh with ⟨Hown, Hsrc⟩
  iapply (wp_firstSends m ρ c K Q) $$ [Hsrc Hsend HO]
  · isplitr; · iexact HR
    isplitl [Hsrc]; · iexact Hsrc
    isplitl [Hsend]; · iexact Hsend
    unfold owing
    iexists _; iexact HO
  iintro ⟨Hsend, Hunder, HO⟩
  unfold ownKept both
  icases Hown with ⟨Hkb, Hvb⟩
  iapply (wp_ownLoad c Q true fullShare.left (rnd m ρ c true)) $$ Hkb; iintro Hkb
  iapply (wp_ownLoad c Q false fullShare.left (rnd m ρ c false)) $$ Hvb; iintro Hvb
  iapply (wp_firstLoop m ρ c Q o l) $$ [Hqb Ho Hl]
  · unfold sums
    isplitl [Hqb]; · iapply (Entails.of_eq (owns_whole (c : Thread nD τ) cc0_scratch0 fullShare _)); iexact Hqb
    isplitl [Ho]; · iapply (Entails.of_eq (owns_whole (c : Thread nD τ) cc0_stg3_0 fullShare _)); iexact Ho
    iapply (Entails.of_eq (owns_whole (c : Thread nD τ) cc0_scratch5 fullShare _)); iexact Hl
  iintro Hheld
  iapply Hgo
  isplitl [Hz]; · iexact Hz
  isplitl [Hq Hk Hv]
  · isplitl [Hq]; · iexact Hq
    isplitl [Hk]; · iexact Hk
    iexact Hv
  isplitl [Hkb Hvb]
  · isplitl [Hkb]; · iexact Hkb
    iexact Hvb
  isplitl [Hpos]; · iexact Hpos
  unfold state
  rw [fromN_zero, upto_zero]
  isplitl [Hrecv]; · iexact Hrecv
  isplitl [Hsend]; · iexact Hsend
  isplitr; · rw [BI.bigSep_empty]; iempintro
  isplitl [Hunder]; · iexact Hunder
  isplitl [Hheld]; · iexact Hheld
  iexact HO

/-! ## The end -/

/-- The own rows' buffers and the landing buffers, at any contents. -/
def returned : sProp 𝕄 :=
  iprop((both fun kv => iprop(∃ y, owns (c : Thread nD τ) (ownM kv) fullShare y)) ∗ both fun kv => iprop(∃ X, owns (c : Thread nD τ) (commM kv) fullShare X))
/-- The cells closed, of the arrivals and of the copies. -/
def closedCells : sProp 𝕄 :=
  iprop((bigSep Finset.univ fun i : Fin 12 => both fun kv => semVal (recvCell c kv i) 0) ∗ bigSep Finset.univ fun i : Fin 12 => both fun kv => semVal (sendCell c kv i) 0)

abbrev early (i : Fin 8) : Fin 12 := Fin.cast (rfl : 8 + 4 = 12) (Fin.castAdd 4 i)
abbrev late (i : Fin 4) : Fin 12 := Fin.cast (rfl : 8 + 4 = 12) (Fin.natAdd 8 i)
abbrev passed (i : Fin 8) : Fin 12 := Fin.cast (rfl : 4 + 8 = 12) (Fin.natAdd 4 i)

theorem passed_before (i : Fin 8) : before (passed i) = early i := Fin.ext (by show 4 + i.val - 4 = i.val; omega)
theorem passed_not (i : Fin 8) : ¬ (passed i).val < 4 := by show ¬ 4 + i.val < 4; omega

/-- What was kept of the slots and of the own rows, and what the copies gave back, make the buffers whole. -/
theorem buffers_back (kv : Bool) :
    iprop(owns (c : Thread nD τ) (ownM kv) fullShare.left (rnd m ρ c kv)
      ∗ (bigSep Finset.univ fun i : Fin 12 => owns (c : Thread nD τ) (slotM kv i) (kept i) (landed m ρ c kv i))
      ∗ bigSep Finset.univ fun i : Fin 12 => owns (c : Thread nD τ) (srcM kv i) fullShare.right (sent m ρ c kv i))
    ⊢ (iprop((∃ y, owns (c : Thread nD τ) (ownM kv) fullShare y) ∗ ∃ X, owns (c : Thread nD τ) (commM kv) fullShare X) : sProp 𝕄) := by
  have hE : iprop((bigSep Finset.univ fun i : Fin 8 => owns (c : Thread nD τ) (slotM kv (early i)) (kept (early i)) (landed m ρ c kv (early i)))
      ∗ bigSep Finset.univ fun i : Fin 8 => owns (c : Thread nD τ) (srcM kv (passed i)) fullShare.right (sent m ρ c kv (passed i)))
      ⊢ (bigSep Finset.univ fun i : Fin 8 => iprop(∃ Y, owns (c : Thread nD τ) (slotM kv (early i)) fullShare Y) : sProp 𝕄) := by
    rw [← bigSep_sep']
    refine each fun i _ => ?_
    rw [src_later kv (passed i) (passed_not i), ← landed_before m ρ c kv (passed i) (passed_not i), passed_before, kept, if_pos (show (early i).val < 8 from i.isLt)]
    iintro H
    iexists (landed m ρ c kv (early i))
    iapply (owns_share (c : Thread nD τ) (slotM kv (early i)) (PosShare.mem_left_op_right fullShare) (landed m ρ c kv (early i))).2
    iexact H
  have hL : (bigSep Finset.univ fun i : Fin 4 => owns (c : Thread nD τ) (slotM kv (late i)) (kept (late i)) (landed m ρ c kv (late i)))
      ⊢ (bigSep Finset.univ fun i : Fin 4 => iprop(∃ Y, owns (c : Thread nD τ) (slotM kv (late i)) fullShare Y) : sProp 𝕄) := by
    refine each fun i _ => ?_
    rw [kept, if_neg (show ¬ (late i).val < 8 by show ¬ 8 + i.val < 8; omega)]
    iintro H
    iexists (landed m ρ c kv (late i))
    iexact H
  rw [bigSep_two 8 4 rfl (fun i => owns (c : Thread nD τ) (slotM kv i) (kept i) (landed m ρ c kv i)),
    bigSep_two 4 8 rfl (fun i => owns (c : Thread nD τ) (srcM kv i) fullShare.right (sent m ρ c kv i))]
  iintro ⟨Hown, ⟨H₁, H₂⟩, H₃, H₄⟩
  isplitl [Hown H₃]
  · iexists (rnd m ρ c kv)
    iapply (owns_share (c : Thread nD τ) (ownM kv) (PosShare.mem_left_op_right fullShare) (rnd m ρ c kv)).2
    isplitl [Hown]; · iexact Hown
    iapply (own_join m ρ c kv fullShare.right); iexact H₃
  iapply (comm_join (F := F) c kv (by cases kv <;> exact fun _ => (Scalar.ofBits .bf16 0 : F .bf16)))
  rw [bigSep_two 8 4 rfl (fun i => iprop(∃ Y, owns (c : Thread nD τ) (slotM kv i) fullShare Y))]
  isplitr [H₂]
  · iapply hE
    isplitl [H₁]; · iexact H₁
    iexact H₄
  iapply hL; iexact H₂

theorem all_back : iprop(ownKept m ρ c ∗ bigSep Finset.univ (received m ρ c) ∗ bigSep Finset.univ (finished m ρ c))
    ⊢ (iprop(returned c ∗ closedCells c) : sProp 𝕄) := by
  have e₁ : bigSep Finset.univ (received m ρ c)
      ⊢ iprop((both fun kv => bigSep Finset.univ fun i : Fin 12 => owns (c : Thread nD τ) (slotM kv i) (kept i) (landed m ρ c kv i))
        ∗ bigSep Finset.univ fun i : Fin 12 => both fun kv => semVal (recvCell c kv i) 0) := by
    rw [← bigSep_both, ← bigSep_sep']
    exact each fun i _ => sep_both _ _
  have e₂ : bigSep Finset.univ (finished m ρ c)
      ⊢ iprop((both fun kv => bigSep Finset.univ fun i : Fin 12 => owns (c : Thread nD τ) (srcM kv i) fullShare.right (sent m ρ c kv i))
        ∗ bigSep Finset.univ fun i : Fin 12 => both fun kv => semVal (sendCell c kv i) 0) := by
    rw [← bigSep_both, ← bigSep_sep']
    exact each fun i _ => sep_both _ _
  iintro ⟨Hown, H₁, H₂⟩
  ihave H₁ := e₁ $$ H₁
  ihave H₂ := e₂ $$ H₂
  icases H₁ with ⟨Hs, Hz⟩
  icases H₂ with ⟨Hf, Hy⟩
  unfold ownKept returned closedCells
  isplitl [Hown Hs Hf]
  · iapply (sep_both (F := F) _ _)
    iapply (both_mono (F := F) fun kv => buffers_back m ρ c kv)
    iapply (both_sep (F := F) _ _)
    isplitl [Hown]; · iexact Hown
    iapply (both_sep (F := F) _ _)
    isplitl [Hs]; · iexact Hs
    iexact Hf
  isplitl [Hz]; · iexact Hz
  iexact Hy

/-- The whole body. -/
theorem wp_tidy :
    iprop(records m ρ K ∗ levAts L lv ∗ tickets c ∗ inputs m ρ c ∗ blanks c ∗ blankSums c ∗ owing c (O₀ c))
      ⊢ iprop(((semVal (barCell c) 0 ∗ inputs m ρ c ∗ returned c ∗ closedCells c
          ∗ sums c (qb m ρ c) (outAt m ρ c) (acc m ρ c 11).2 ∗ owing c 0) -∗ Q ⟨⟩)
        -∗ run c (tidy (F := F)) Q) := by
  unfold tidy
  iintro ⟨#HR, #Hlev, H⟩ Hgo
  iapply (wp_opening m ρ c K Q) $$ [H]
  · isplitr; · iexact HR
    isplitr; · iexact Hlev
    iexact H
  iintro ⟨Hz, Hin, Hown, Hpos, Hst⟩
  iapply (wp_hops (F := F) c Q (state m ρ c) iprop(records m ρ K ∗ levAts L lv) (phase c)
    (fun j Kp => BIBase.Entails.trans (by iintro ⟨⟨H₁, H₂⟩, H₃⟩; isplitl [H₁]; · iexact H₁
                                          isplitl [H₂]; · iexact H₂
                                          iexact H₃) (wp_phase m ρ c K Q j Kp))) $$ [Hst]
  · isplitr
    · isplitr; · iexact HR
      iexact Hlev
    iexact Hst
  unfold state
  rw [fromN_end 12 (Nat.le_refl _), fromN_end (12 + 4) (by decide), upto_end 12 (Nat.le_refl _), upto_end (12 + 4) (by decide), owed_end c (12 + 4) (by decide), held_end]
  iintro ⟨-, -, Hrec, Hund, Hheld, HO⟩
  iapply (wp_hops (F := F) c Q (closing m ρ c) iprop(records m ρ K ∗ levAts L lv) finish
    (fun j Kp => BIBase.Entails.trans (by iintro ⟨⟨H₁, H₂⟩, H₃⟩; isplitl [H₁]; · iexact H₁
                                          isplitl [H₂]; · iexact H₂
                                          iexact H₃) (wp_finish m ρ c K Q j Kp))) $$ [Hund Hpos HO]
  · isplitr
    · isplitr; · iexact HR
      iexact Hlev
    unfold closing
    rw [fromN_zero, upto_zero, BI.bigSep_empty]
    isplitl [Hund Hpos]
    · have e : iprop(bigSep Finset.univ (underway c) ∗ bigSep Finset.univ (sendPos c)) ⊢ (bigSep Finset.univ (toFinish c) : sProp 𝕄) := by
        rw [← bigSep_sep']
        exact each fun i _ => both_sep _ _
      iapply e
      isplitl [Hund]; · iexact Hund
      iexact Hpos
    isplitr; · iempintro
    iexact HO
  unfold closing
  rw [upto_end 12 (Nat.le_refl _)]
  iintro ⟨-, Hfin, HO⟩
  ihave Hb := (all_back m ρ c) $$ [Hown Hrec Hfin]
  · isplitl [Hown]; · iexact Hown
    isplitl [Hrec]; · iexact Hrec
    iexact Hfin
  icases Hb with ⟨Hret, Hcl⟩
  unfold run
  rw [wp_ret]; imodintro
  iapply Hgo
  isplitl [Hz]; · iexact Hz
  isplitl [Hin]; · iexact Hin
  isplitl [Hret]; · iexact Hret
  isplitl [Hcl]; · iexact Hcl
  isplitl [Hheld]; · iexact Hheld
  iexact HO

end Cert.KernelIdeal.Ring

end
-- ==== Proof.Launch.lean ====
/-
  The launch: the devices' cells, what each starts from, and the run of the program.
-/
module

public import proofs.«01_k».proof.Proof.Body
public import proofs.«01_k».proof.Proof.Gen.KernelIdeal.Points

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ UU ℕ

/-! ## Conjunctions over the cells -/

theorem bigSep_opt {α : Type} [Fintype α] [DecidableEq α] (Φ : Option α → sProp 𝕄) :
    bigSep Finset.univ Φ = iprop(Φ none ∗ bigSep Finset.univ fun a : α => Φ (some a)) := by
  have e : (Finset.univ : Finset (Option α)) = insert none (Finset.univ.map Function.Embedding.some) := by
    refine (Finset.eq_univ_iff_forall.mpr fun x => ?_).symm
    cases x with
    | none => exact Finset.mem_insert_self _ _
    | some a => exact Finset.mem_insert_of_mem (Finset.mem_map_of_mem _ (Finset.mem_univ a))
  rw [e, bigSep_put (by simp), BI.bigSep_map]
  rfl

theorem bigSep_bool (Φ : Bool → sProp 𝕄) : bigSep Finset.univ Φ = both Φ := by
  rw [bigSep_univ_eq_bigSepL [true, false] (by decide) (by decide), bigSepL_cons_cons, bigSepL_singleton]
  rfl

/-- Over the arrivals and over the copies. -/
theorem bigSep_key (Φ : Key → sProp 𝕄) : bigSep Finset.univ Φ
    = iprop((bigSep Finset.univ fun i : Fin 12 => both fun kv => Φ (true, kv, i)) ∗ bigSep Finset.univ fun i : Fin 12 => both fun kv => Φ (false, kv, i)) := by
  rw [BI.bigSep_univ_prod, bigSep_bool, bigSep_both, bigSep_both]
  unfold both
  simp only [BI.bigSep_univ_prod, bigSep_bool]
  rfl

/-! ## What a device starts from -/

/-- Its cells at their start. -/
def positions (c : Dev nD) : sProp 𝕄 := bigSep Finset.univ fun k : Option Key => atPos ER (kcell (c, k)) 0 ∅ 0
/-- The duties it pays. -/
def payToks (c : Dev nD) : sProp 𝕄 :=
  iprop(dutyTok ER (barCell (prv c)) 0 true ∗ dutyTok ER (barCell (nxt c)) 0 false
    ∗ (bigSep Finset.univ fun i : Fin 12 => both fun kv => dutyTok ER (recvCell (nxt c) kv i) 0 false)
    ∗ bigSep Finset.univ fun i : Fin 12 => both fun kv => dutyTok ER (sendCell c kv i) 0 false)
/-- What it is to be paid. -/
def credits (c : Dev nD) : sProp 𝕄 :=
  iprop(cred (tallyAt (barCell c) () 2) ∗ bigSep Finset.univ fun i : Fin 12 => both fun kv => cred (tallyAt (recvCell c kv i) () N))
/-- Its scratch buffers, at any contents. -/
def scratch (c : Dev nD) : sProp 𝕄 := iprop(blanks c ∗ ∃ l, owns (c : Thread nD τ) lM fullShare l)

/-- The cells' invariants and what the device pays with. -/
def ghost (c : Dev nD) : sProp 𝕄 := iprop(∃ K, records m ρ K ∗ positions c ∗ payToks c)
def start (c : Dev nD) : sProp 𝕄 := iprop(ghost m ρ c ∗ credits c ∗ levAts L lv)

theorem tickets_intro (c : Dev nD) : iprop(positions c ∗ payToks c ∗ credits c) ⊢ (tickets c : sProp 𝕄) := by
  unfold positions payToks credits tickets
  rw [bigSep_opt, bigSep_key]
  have e₁ : iprop((bigSep Finset.univ fun i : Fin 12 => both fun kv => cred (tallyAt (recvCell c kv i) () N))
      ∗ bigSep Finset.univ fun i : Fin 12 => both fun kv => atPos ER (kcell (c, some (true, kv, i))) 0 ∅ 0) ⊢ (bigSep Finset.univ (toRecv c) : sProp 𝕄) := by
    rw [← bigSep_sep']; exact each fun i _ => both_sep _ _
  have e₂ : iprop((bigSep Finset.univ fun i : Fin 12 => both fun kv => dutyTok ER (sendCell c kv i) 0 false)
      ∗ bigSep Finset.univ fun i : Fin 12 => both fun kv => dutyTok ER (recvCell (nxt c) kv i) 0 false) ⊢ (bigSep Finset.univ (duties c) : sProp 𝕄) := by
    rw [← bigSep_sep']; exact each fun i _ => both_sep _ _
  iintro ⟨⟨Hab, Har, Has⟩, ⟨Hp, Hn, Hdr, Hds⟩, Hcb, Hcr⟩
  isplitl [Hab Hcb Hp Hn]
  · isplitl [Hab]; · iexact Hab
    isplitl [Hcb]; · iexact Hcb
    isplitl [Hp]; · iexact Hp
    iexact Hn
  isplitl [Hcr Har]
  · iapply e₁
    isplitl [Hcr]; · iexact Hcr
    iexact Har
  isplitl [Hdr Hds]
  · iapply e₂
    isplitl [Hds]; · iexact Hds
    iexact Hdr
  iexact Has

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start m ρ c ∗ scratch c)
def Φ₁ (c : Dev nD) : sProp 𝕄 := iprop(semVal (barCell c) 0 ∗ closedCells c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xq m ρ c
    | ⟨1, _⟩ => xk m ρ c
    | ⟨2, _⟩ => xv m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer. -/
abbrev stg (c : Dev nD) (b : Ref sig .tc) (X : b.ty.Contents (Elt F)) : sProp 𝕄 :=
  owns (c : Thread nD τ) (Memref.whole b) fullShare X

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ
    ∗ stg c cc0_stg0_0 (xq m ρ c) ∗ stg c cc0_stg1_0 (xk m ρ c) ∗ stg c cc0_stg2_0 (xv m ρ c) ∗ stg c cc0_stg3_0 (outAt m ρ c))

theorem before_q (c : Dev nD) (d) : (dats m ρ 0 c).before (0 : Fin 4) t₀ d = xq m ρ c := by
  unfold Dat.before; rw [if_pos (fetch0_0 t₀)]; rfl
theorem before_k (c : Dev nD) (d) : (dats m ρ 0 c).before (1 : Fin 4) t₀ d = xk m ρ c := by
  unfold Dat.before; rw [if_pos (fetch0_1 t₀)]; rfl
theorem before_v (c : Dev nD) (d) : (dats m ρ 0 c).before (2 : Fin 4) t₀ d = xv m ρ c := by
  unfold Dat.before; rw [if_pos (fetch0_2 t₀)]; rfl

theorem sound_body (c : Dev nD) : bodyPre m ρ c ⊢ run c (app (cc0_body (F := F))) (fun _ => bodyPost m ρ c) := by
  rw [body_eq]
  unfold bodyPre Φ₀ start ghost scratch
  iintro ⟨⟨⟨⟨%K, #HR, Hpos, Hpay⟩, Hcr, #Hlev⟩, Hbl, %l, Hl⟩, Ho, ⟨%d0, Hq⟩, ⟨%d1, Hk⟩, ⟨%d2, Hv⟩, ⟨%d3, Hout⟩⟩
  rw [before_q, before_k, before_v]
  unfold Dat.owesAt Pipeline.owesWithin
  icases Ho with ⟨%W, %hW, HO⟩
  rw [show (dats m ρ 0 c).owed t₀.castSucc = O₀ c from rfl]
  ihave Ht := (tickets_intro (F := F) c) $$ [Hpos Hpay Hcr]
  · isplitl [Hpos]; · iexact Hpos
    isplitl [Hpay]; · iexact Hpay
    iexact Hcr
  iapply (wp_tidy m ρ c K fun _ => bodyPost m ρ c) $$ [Ht Hq Hk Hv Hbl Hout Hl HO]
  · isplitr; · iexact HR
    isplitr; · iexact Hlev
    isplitl [Ht]; · iexact Ht
    isplitl [Hq Hk Hv]
    · unfold inputs
      isplitl [Hq]; · iexact Hq
      isplitl [Hk]; · iexact Hk
      iexact Hv
    isplitl [Hbl]; · iexact Hbl
    isplitl [Hout Hl]
    · unfold blankSums
      isplitl [Hout]; · (iexists _; iexact Hout)
      iexists l; iexact Hl
    unfold owing
    iexists W; iexact HO
  unfold sums inputs owing returned
  iintro ⟨Hz, ⟨Hq, Hk, Hv⟩, ⟨Hown, Hcomm⟩, Hcl, ⟨Hqb, Hout, Hl⟩, %W', HO⟩
  unfold bodyPost Φ₁ Dat.owesAt Pipeline.owesWithin scratch blanks
  rw [show (dats m ρ 0 c).owed t₀.succ = 0 from rfl]
  isplitl [Hz Hown Hcomm Hcl Hqb Hl]
  · isplitl [Hz]; · iexact Hz
    isplitl [Hcl]; · iexact Hcl
    isplitr [Hl]
    · isplitl [Hqb]
      · iexists (qb m ρ c)
        iapply (Entails.of_eq (owns_whole (c : Thread nD τ) cc0_scratch0 fullShare _).symm); iexact Hqb
      isplitl [Hown]; · iexact Hown
      iexact Hcomm
    iexists (acc m ρ c 11).2
    iapply (Entails.of_eq (owns_whole (c : Thread nD τ) cc0_scratch5 fullShare _).symm); iexact Hl
  isplitl [HO]
  · iexists W'
    isplitr; · (ipureintro; exact fun _ _ => Or.inl trivial)
    iexact HO
  isplitl [Hq]; · iexact Hq
  isplitl [Hk]; · iexact Hk
  isplitl [Hv]; · iexact Hv
  iapply (Entails.of_eq (owns_whole (c : Thread nD τ) cc0_stg3_0 fullShare _).symm); iexact Hout

theorem body_obligation (c : Dev nD) : BodyObligation (dats (F := F) m ρ 0 c) (defs₀ (F := F)) 𝒱₀ () Set.univ := fun t => by
  rw [fin_N t]
  rw [bigSep_W0, bigSep_W0]
  exact sound_body m ρ c

end Cert.KernelIdeal.Ring

end
-- ==== Proof.Run.lean ====
/-
  The run of the program on the four devices: the cells are dealt out, the bodies run, and what is left is read off.
-/
module

public import proofs.«01_k».proof.Proof.Launch
public import Idealize.ShloMosaic.Lib.Pipeline.CollectiveSegs

@[expose] public section

set_option maxRecDepth 65536

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ UU ℕ

/-! ## The cells and their tokens -/

def osem (k : Key) : SemLoc sig := .dma (keySem k)

theorem ownSemFacts : Pipeline.OwnSemFacts cfg0.spec osem where
  isScoped := by decide
  inj := fun k k' h => Option.some_injective _ (csem_injective (a₁ := some k) (a₂ := some k') h)
  disj := by
    intro k w s h
    have h' := congrArg code h
    rw [show code (osem k) = some k from code_keySem k] at h'
    revert h'
    revert k
    fin_cases w <;> fin_cases s <;> exact fun k _ h => by cases h

theorem share_eq (c : Dev nD) (w : Fin cfg0.W) : (dats m ρ 0 c).share w = fullShare := by unfold Dat.share; split <;> rfl

theorem kcell_injective : Function.Injective (kcell : Dev nD × Option Key → GSem nD τ sig) := by
  rintro ⟨c, k⟩ ⟨c', k'⟩ h
  have h₁ : c = c' := congrArg (fun g : GSem nD τ sig => g.1.1) h
  have h₂ : k = k' := csem_injective (congrArg Prod.snd h)
  rw [h₁, h₂]
def ringCells : Finset (GSem nD τ sig) := Finset.univ.map ⟨kcell, kcell_injective⟩

/-- Each cell's duty `false`; a barrier's duty `true`. -/
def tokOf : Dev nD × Option (Option Key) → GSem nD τ sig × ℕ × Bool
  | (c, some k) => (kcell (c, k), 0, false)
  | (c, none) => (barCell c, 0, true)
theorem tokOf_injective : Function.Injective tokOf := by
  rintro ⟨c, j⟩ ⟨c', j'⟩ h
  have hb : (tokOf (c, j)).2.2 = (tokOf (c', j')).2.2 := by rw [h]
  have hc : (tokOf (c, j)).1 = (tokOf (c', j')).1 := by rw [h]
  cases j with
  | none =>
    cases j' with
    | none => rw [show c = c' from congrArg (fun g : GSem nD τ sig => g.1.1) hc]
    | some k' => cases hb
  | some k =>
    cases j' with
    | none => cases hb
    | some k' =>
      have := kcell_injective (a₁ := (c, k)) (a₂ := (c', k')) hc
      rw [Prod.mk.injEq] at this
      rw [this.1, this.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop(dutyTok ER (barCell c) 0 true ∗ dutyTok ER (barCell c) 0 false
    ∗ (bigSep Finset.univ fun i : Fin 12 => both fun kv => dutyTok ER (recvCell c kv i) 0 false)
    ∗ bigSep Finset.univ fun i : Fin 12 => both fun kv => dutyTok ER (sendCell c kv i) 0 false)

/-- What the launch deals a device. -/
def dealt (c : Dev nD) : sProp 𝕄 :=
  iprop((bigSep Finset.univ fun k : Option Key => roundState ER (Rd m ρ) (kcell (c, k)) 0)
    ∗ (bigSep Finset.univ fun k : Option Key => reached ER (kcell (c, k)) 0) ∗ positions c ∗ toks c)

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k : Option Key => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    exact bigSep_congr fun c _ => by unfold toks; rw [bigSep_opt, bigSep_opt, bigSep_key]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt positions; simp only [bigSep_sep']
  isplitl [Hst']; · iexact Hst'
  isplitl [Hr']; · iexact Hr'
  isplitl [Hat']; · iexact Hat'
  iexact Htok'

/-! ## The counters -/

abbrev own0 (c : Dev nD) : sProp 𝕄 := Pipeline.ownSems0 (Ix := Unit) (Name := ℕ) (U := UU) (Lvl := ℕ) (Val := Elt F) (τ := τ) osem c

/-- The launch's one unscoped counter is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl

theorem own0_eq (c : Dev nD) : (own0 c : sProp 𝕄) = closedCells c := by
  unfold own0 Pipeline.ownSems0 closedCells
  rw [bigSep_key]; rfl

theorem sems0 (c : Dev nD) : iprop(own0 c ∗ unscopedSems0 c) ⊢ (bigSep Finset.univ fun k : Option Key => semVal (kcell (c, k)) 0 : sProp 𝕄) := by
  rw [bigSep_opt, unscoped_eq]
  iintro ⟨HS, HB⟩
  isplitl [HB]; · iexact HB
  unfold own0 Pipeline.ownSems0
  iexact HS

/-- A device's cells, under invariants. -/
def cells (c : Dev nD) : sProp 𝕄 := bigSep Finset.univ fun k : Option Key => iprop(∃ κ : ℕ, cellInv ER (Rd m ρ) κ (kcell (c, k)))

theorem core_alloc (c : Dev nD) :
    iprop(own0 c ∗ unscopedSems0 c ∗ dealt m ρ c)
      ⊢ |={Set.univ}=> iprop(cells m ρ c ∗ (bigSep Finset.univ fun k : Option Key => reached ER (kcell (c, k)) 0) ∗ positions c ∗ toks c) := by
  unfold dealt
  iintro ⟨Hos, Hus, Hst, Hrest⟩
  ihave Hv := (sems0 (F := F) c) $$ [Hos Hus]
  · isplitl [Hos] <;> iassumption
  imod (show iprop((bigSep Finset.univ fun k : Option Key => semVal (kcell (c, k)) 0) ∗ bigSep Finset.univ fun k : Option Key => roundState ER (Rd m ρ) (kcell (c, k)) 0)
      ⊢ (|={Set.univ}=> cells m ρ c : sProp 𝕄) from by
        rw [← bigSep_sep']
        exact (each fun k _ => BIBase.Entails.trans (Rounds.body_intro ER (Rd m ρ) (kcell (c, k))) inv_alloc).trans (bigSep_fupd _ _)) $$ [Hv Hst] with Hinv
  · isplitl [Hv] <;> iassumption
  imodintro
  isplitl [Hinv]; · iexact Hinv
  iexact Hrest

/-! ## Dealing the tokens around the ring -/

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    BI.bigSep_univ_equiv ring.symm (fun c : Dev nD => (dutyTok ER (barCell c) 0 true : sProp 𝕄)),
    BI.bigSep_univ_equiv ring (fun c : Dev nD => (dutyTok ER (barCell c) 0 false : sProp 𝕄)),
    BI.bigSep_univ_equiv ring (fun c : Dev nD => bigSep Finset.univ fun i : Fin 12 => both fun kv => (dutyTok ER (recvCell c kv i) 0 false : sProp 𝕄))]
  iintro ⟨H1, H2, H3, H4⟩
  isplitl [H1]; · iexact H1
  isplitl [H2]; · iexact H2
  isplitl [H3]; · iexact H3
  iexact H4

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, HΦ⟩
  ihave HR' := (BI.bigSep_of_persistent S R) $$ HR
  iapply (each h)
  rw [bigSep_sep']
  isplitl [HR']; · iexact HR'
  iexact HΦ

theorem regroup :
    (bigSep Finset.univ fun c : Dev nD => iprop(cells m ρ c ∗ (bigSep Finset.univ fun k : Option Key => reached ER (kcell (c, k)) 0) ∗ positions c ∗ toks c) : sProp 𝕄)
      ⊢ bigSep Finset.univ (ghost m ρ) := by
  unfold cells
  rw [bigSep_sep', bigSep_sep', bigSep_sep', ← BI.bigSep_univ_prod (fun ck : Dev nD × Option Key => iprop(∃ κ : ℕ, cellInv ER (Rd m ρ) κ (kcell ck))),
    ← BI.bigSep_univ_prod (fun ck : Dev nD × Option Key => (reached ER (kcell ck) 0 : sProp 𝕄))]
  iintro ⟨HI, #HR, Hat, Htok⟩
  ihave HK := (BI.bigSep_exists_pi Finset.univ (fun (ck : Dev nD × Option Key) (κ : ℕ) => (cellInv ER (Rd m ρ) κ (kcell ck) : sProp 𝕄))) $$ HI
  icases HK with ⟨%K, #HI⟩
  ihave Htk := (toks_around (F := F)) $$ Htok
  iapply (with_records (R := records m ρ K) (Φ := fun c => iprop(positions c ∗ payToks c)) fun c _ => show _ ⊢ ghost m ρ c from by
    unfold ghost
    iintro H
    iexists K
    iexact H)
  isplitr
  · unfold records; isplitl; · iexact HI
    iexact HR
  · rw [bigSep_sep']
    isplitl [Hat]; · iexact Hat
    iexact Htk

/-- Every device's counters at once become cells. -/
theorem glob : (bigSep Finset.univ fun c => iprop(own0 c ∗ unscopedSems0 c ∗ dealt m ρ c) : sProp 𝕄)
    ⊢ |={Set.univ}=> bigSep Finset.univ (ghost m ρ) :=
  ((each fun c _ => core_alloc m ρ c).trans (bigSep_fupd _ _)).trans (BI.fupd_mono (regroup m ρ))

/-! ## The credits -/

theorem bar_eq_iff {a b : Dev nD} : Iff (barCell a = barCell b) (a = b) :=
  ⟨fun h => congrArg (fun g : GSem nD τ sig => g.1.1) h, fun h => h ▸ rfl⟩
theorem recv_eq {a b : Dev nD} {kv kv' : Bool} {i i' : Fin 12} (h : recvCell a kv i = recvCell b kv' i') : a = b ∧ kv = kv' ∧ i = i' := by
  have h₁ : a = b := congrArg (fun g : GSem nD τ sig => g.1.1) h
  have h₂ : code (.dma (recvS kv i)) = code (.dma (recvS kv' i')) := congrArg (fun g : GSem nD τ sig => code g.2) h
  rw [code_recv, code_recv, Option.some.injEq, Prod.mk.injEq, Prod.mk.injEq] at h₂
  exact ⟨h₁, h₂.2.1, h₂.2.2⟩
theorem bar_ne_recv (c d : Dev nD) (kv : Bool) (j : Fin 12) : barCell c ≠ recvCell d kv j := fun h => by
  have := congrArg Prod.snd h
  cases this
theorem nxt_iff {c d : Dev nD} : Iff (c = nxt d) (d = prv c) :=
  ⟨fun h => by rw [h, prv_nxt], fun h => by rw [h, nxt_prv]⟩
theorem prv_iff {c d : Dev nD} : Iff (c = prv d) (d = nxt c) :=
  ⟨fun h => by rw [h, nxt_prv], fun h => by rw [h, prv_nxt]⟩

theorem owed_sum (d : Dev nD) (g : GSem nD τ sig) : owed d 0 g ()
    = ∑ j : Fin 12, ((if g = recvCell (nxt d) false j then N else 0) + if g = recvCell (nxt d) true j then N else 0) := by
  unfold owed
  rw [Finset.sum_apply, Finsupp.finset_sum_apply, Finset.filter_true_of_mem fun i _ => Nat.zero_le _]
  refine Finset.sum_congr rfl fun j _ => ?_
  rw [Pi.add_apply, Finsupp.add_apply, tallyAt_apply, tallyAt_apply]
  simp only [and_true]

theorem owed_recv (d c : Dev nD) (kv : Bool) (j : Fin 12) : O₀ d (recvCell c kv j) () = if d = prv c then N else 0 := by
  unfold O₀ O₁
  rw [Pi.add_apply, Finsupp.add_apply, Pi.add_apply, Finsupp.add_apply, tallyAt_ne_cell (fun h => by cases congrArg Prod.snd h),
    tallyAt_ne_cell (fun h => by cases congrArg Prod.snd h), Finsupp.zero_apply, Nat.add_zero, Nat.add_zero, owed_sum]
  have hz (kv' : Bool) (i : Fin 12) (h : ¬(c = nxt d ∧ kv = kv' ∧ j = i)) : (if recvCell c kv j = recvCell (nxt d) kv' i then N else 0) = 0 :=
    if_neg fun e => h (recv_eq e)
  rw [Finset.sum_eq_single j (fun i _ hi => by rw [hz _ _ fun h => hi h.2.2.symm, hz _ _ fun h => hi h.2.2.symm, Nat.add_zero])
    (fun h => absurd (Finset.mem_univ j) h)]
  by_cases h : d = prv c
  · rw [if_pos h]
    have e := nxt_iff.mpr h
    subst e
    cases kv
    · rw [if_pos rfl, hz true j fun h => Bool.noConfusion h.2.1, Nat.add_zero]
    · rw [if_pos rfl, hz false j fun h => Bool.noConfusion h.2.1, Nat.zero_add]
  · rw [if_neg h, hz _ _ fun e => h (nxt_iff.mp e.1), hz _ _ fun e => h (nxt_iff.mp e.1)]

theorem owed_bar (d c : Dev nD) : O₀ d (barCell c) () = (if d = prv c then 1 else 0) + if d = nxt c then 1 else 0 := by
  unfold O₀ O₁
  rw [Pi.add_apply, Finsupp.add_apply, Pi.add_apply, Finsupp.add_apply, tallyAt_apply, tallyAt_apply, owed_sum,
    Finset.sum_eq_zero fun j _ => by rw [if_neg (bar_ne_recv c _ _ _), if_neg (bar_ne_recv c _ _ _), Nat.add_zero], Nat.zero_add]
  have e₁ : (barCell c = barCell (nxt d) ∧ True) = (d = prv c) := propext ⟨fun h => nxt_iff.mp (bar_eq_iff.mp h.1), fun h => ⟨bar_eq_iff.mpr (nxt_iff.mpr h), trivial⟩⟩
  have e₂ : (barCell c = barCell (prv d) ∧ True) = (d = nxt c) := propext ⟨fun h => prv_iff.mp (bar_eq_iff.mp h.1), fun h => ⟨bar_eq_iff.mpr (prv_iff.mpr h), trivial⟩⟩
  simp only [e₁, e₂]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (kv : Bool) (j : Fin 12) :
    tallyOn (recvCell c kv j) (launchCredit (Pipeline.owing O₀) 0 (recvCell c kv j)) = (tallyAt (recvCell c kv j) () N : CellTallies nD τ sig Unit) := by
  unfold tallyAt; refine congrArg _ (Finsupp.ext fun u => ?_); cases u
  rw [Pipeline.launchCredit_owing, Finsupp.single_eq_same, Finset.sum_congr rfl fun d _ => owed_recv d c kv j, Finset.sum_ite_eq' Finset.univ (prv c) fun _ => N,
    if_pos (Finset.mem_univ _)]

theorem creds (c : Dev nD) : (Pipeline.launchCred O₀ c : sProp 𝕄) ⊢ credits c := by
  have hk : (Pipeline.launchCred O₀ c : sProp 𝕄)
      ⊢ bigSep Finset.univ fun k : Option Key => cred (tallyOn (kcell (c, k)) (launchCredit (Pipeline.owing O₀) 0 (kcell (c, k)))) := by
    unfold Pipeline.launchCred
    have h := BI.bigSep_subset (M := 𝕄) (Finset.subset_univ (Finset.univ.map ⟨csem, csem_injective⟩))
      (Φ := fun sm : SemLoc sig => (cred (tallyOn ((c.tc : Thread nD τ), sm) (launchCredit (Pipeline.owing O₀) 0 ((c.tc : Thread nD τ), sm))) : sProp 𝕄))
    rw [BI.bigSep_map] at h
    exact h
  refine BIBase.Entails.trans hk ?_
  rw [bigSep_opt, bigSep_key]
  unfold credits
  iintro ⟨Hb, Hr, -⟩
  isplitl [Hb]
  · iapply (Entails.of_eq (congrArg cred (launch_bar c))); iexact Hb
  · iapply (each fun i _ => both_mono fun kv => Entails.of_eq (congrArg cred (launch_recv c kv i))); iexact Hr

/-! ## What goes in and what comes out -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The scratch buffers as the launch hands them over. -/
theorem scratch_eq (c : Dev nD) : (Pipeline.scopedRest cfg0.spec c : sProp 𝕄) ⊢ scratch c := by
  rw [scopedRest0_eq]
  unfold scratch blanks both
  iintro ⟨⟨%f0, H0⟩, ⟨%f1, H1⟩, ⟨%f2, H2⟩, ⟨%f3, H3⟩, ⟨%f4, H4⟩, ⟨%f5, H5⟩⟩
  isplitl [H0 H1 H2 H3 H4]
  · isplitl [H0]
    · iexists f0; iapply (Entails.of_eq (owns_whole (c : Thread nD τ) cc0_scratch0 fullShare f0).symm); iexact H0
    isplitl [H1 H2]
    · isplitl [H1]
      · iexists f1; iapply (Entails.of_eq (owns_whole (c : Thread nD τ) cc0_scratch1 fullShare f1).symm); iexact H1
      · iexists f2; iapply (Entails.of_eq (owns_whole (c : Thread nD τ) cc0_scratch2 fullShare f2).symm); iexact H2
    · isplitl [H3]
      · iexists f3; iapply (Entails.of_eq (owns_whole (c : Thread nD τ) cc0_scratch3 fullShare f3).symm); iexact H3
      · iexists f4; iapply (Entails.of_eq (owns_whole (c : Thread nD τ) cc0_scratch4 fullShare f4).symm); iexact H4
  · iexists f5; iapply (Entails.of_eq (owns_whole (c : Thread nD τ) cc0_scratch5 fullShare f5).symm); iexact H5

theorem scratch_back (c : Dev nD) : scratch c ⊢ (Pipeline.scopedRest cfg0.spec c : sProp 𝕄) := by
  rw [scopedRest0_eq]
  unfold scratch blanks both
  iintro ⟨⟨⟨%f0, H0⟩, ⟨⟨%f1, H1⟩, ⟨%f2, H2⟩⟩, ⟨%f3, H3⟩, ⟨%f4, H4⟩⟩, ⟨%f5, H5⟩⟩
  isplitl [H0]
  · iexists f0; iapply (Entails.of_eq (owns_whole (c : Thread nD τ) cc0_scratch0 fullShare f0)); iexact H0
  isplitl [H1]
  · iexists f1; iapply (Entails.of_eq (owns_whole (c : Thread nD τ) cc0_scratch1 fullShare f1)); iexact H1
  isplitl [H2]
  · iexists f2; iapply (Entails.of_eq (owns_whole (c : Thread nD τ) cc0_scratch2 fullShare f2)); iexact H2
  isplitl [H3]
  · iexists f3; iapply (Entails.of_eq (owns_whole (c : Thread nD τ) cc0_scratch3 fullShare f3)); iexact H3
  isplitl [H4]
  · iexists f4; iapply (Entails.of_eq (owns_whole (c : Thread nD τ) cc0_scratch4 fullShare f4)); iexact H4
  iexists f5; iapply (Entails.of_eq (owns_whole (c : Thread nD τ) cc0_scratch5 fullShare f5)); iexact H5

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_eq c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscoped_eq]
  unfold Φ₁
  iintro ⟨Hz, Hcl, Hr⟩
  isplitl [Hz]; · iexact Hz
  isplitl [Hcl]
  · iapply (Entails.of_eq (own0_eq c).symm); iexact Hcl
  iapply (scratch_back c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

/-- Every execution ends, each device's arrays as computed and every counter at zero. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_q (c : Dev nD) : finalA m ρ c (0 : Fin 4) = (s₀ m ρ).mem (win0_0.arr.view.loc (c : Thread nD τ)) :=
  (dats (F := F) m ρ 0 c).arrAt_in (0 : Fin 4) rfl _
theorem finalA_k (c : Dev nD) : finalA m ρ c (1 : Fin 4) = (s₀ m ρ).mem (win0_1.arr.view.loc (c : Thread nD τ)) :=
  (dats (F := F) m ρ 0 c).arrAt_in (1 : Fin 4) rfl _
theorem finalA_v (c : Dev nD) : finalA m ρ c (2 : Fin 4) = (s₀ m ρ).mem (win0_2.arr.view.loc (c : Thread nD τ)) :=
  (dats (F := F) m ρ 0 c).arrAt_in (2 : Fin 4) rfl _

end Cert.KernelIdeal.Ring

end
-- ==== Proof.Frames.lean ====
/-
  The frames: every execution ends with the arguments unchanged and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.KernelIdeal.Ring

open Idealize.ShloMosaic Idealize.ShloMosaic.TcCoe Idealize.SL.Sem
open Cert.KernelIdeal.Gen

variable {F : FTy → Type} [FloatOps F] [Named F]

/-- The arguments end unchanged and the counters at zero. -/
theorem run_frame (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c (0 : Fin 4)).trans (finalA_q m ρ c), (h.1 c (1 : Fin 4)).trans (finalA_k m ρ c),
    (h.1 c (2 : Fin 4)).trans (finalA_v m ρ c)⟩, h.2⟩) (run_main m ρ)

/-- With bits for values the constant is the rounded one. -/
@[reducible] def rounded : Named Bits := ⟨fun _ _ φ bits => Scalar.ofBits φ bits⟩

attribute [local instance] rounded

/-- The two programs' bodies are one text. -/
theorem defs₀_rounded : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))
theorem defs_rounded : Cert.Kernel.defs (F := Bits) = Cert.KernelIdeal.defs (F := Bits) := congrArg (Pipeline.defs _) defs₀_rounded

theorem frame_kernel : Cert.quiescent_Kernel := fun m ρ _ => by
  rw [defs_rounded]
  exact run_frame (F := Bits) m ρ

theorem frame_kernelIdeal : Cert.quiescent_KernelIdeal := fun m ρ _ => run_frame m ρ

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem preserves : Cert.preserves_Kernel_KernelIdeal :=
  IdealRules.named_const.statement Cert.KernelIdeal.κ "log2e_16" .f32 0x3DB8AA3B#32 (((16 * (Real.log 2))⁻¹ : ℝ) : EReal) rfl

end Cert.KernelIdeal.Ring

end
-- ==== Proof.Value.lean ====
/-
  What a device's result holds over the extended reals: each entry is the sum, over the keys of all four devices, of the weighted
  values by the sum of the weights.
-/
module

public import proofs.«01_k».proof.Proof.Phases
public import Idealize.ShloMosaic.Lib.Pointwise

@[expose] public section

set_option maxRecDepth 65536

noncomputable section

namespace Cert.KernelIdeal.Ring

open Idealize.ShloMosaic Idealize.ShloMosaic.TcCoe
open Cert.KernelIdeal.Gen

/-! ## A tile's sums at an entry -/

/-- The power of two of the score of a query row against a key row. -/
def wt {n p : ℕ} (q : (⟨2, ![p, 256]⟩ : Shape).Idx → EReal) (a : (⟨2, ![n, 256]⟩ : Shape).Idx → EReal) (i : Fin p) (j : Fin n) : EReal :=
  Ideal.exp2 (∑ e : Fin 256, q (ix2 i e) * a (ix2 j e))

theorem firstOut_at (a b : FVec Ideal S4096x256 .bf16) (q : FVec Ideal S512x256 .bf16) (i : Fin 512) (d : Fin 256) :
    firstOut a b q (ix2 i d) = ∑ j : Fin 4096, wt q a i j * b (ix2 j d) := by
  pointwise [firstOut, weights4096]
  rfl
theorem firstSum_at (a : FVec Ideal S4096x256 .bf16) (q : FVec Ideal S512x256 .bf16) (i : Fin 512) (u : Fin 1) :
    firstSum a q (ix2 i u) = ∑ j : Fin 4096, wt q a i j := by
  pointwise [firstSum, weights4096]
  rfl
theorem nextOut_at (a b : FVec Ideal S1024x256 .bf16) (q : FVec Ideal S512x256 .bf16) (o : FVec Ideal S512x256 .f32) (i : Fin 512) (d : Fin 256) :
    nextOut a b q o (ix2 i d) = o (ix2 i d) + ∑ j : Fin 1024, wt q a i j * b (ix2 j d) := by
  pointwise [nextOut, weights1024]
  rfl
theorem nextSum_at (a : FVec Ideal S1024x256 .bf16) (q : FVec Ideal S512x256 .bf16) (l : FVec Ideal S512x1 .f32) (i : Fin 512) (u : Fin 1) :
    nextSum a q l (ix2 i u) = l (ix2 i u) + ∑ j : Fin 1024, wt q a i j := by
  pointwise [nextSum, weights1024]
  rfl
theorem recast_at (x : FVec Ideal S512x1 .f32) (i : S512x1.Idx) : shapeCast S512x1 x shapeCasts_S512x1_S512x1 i = x i := by
  pointwise []
theorem lastOut_at (a b : FVec Ideal S1024x256 .bf16) (q : FVec Ideal S512x256 .bf16) (o : FVec Ideal S512x256 .f32) (l : FVec Ideal S512x1 .f32)
    (i : Fin 512) (d : Fin 256) : lastOut a b q o l (ix2 i d) = Ideal.div (nextOut a b q o (ix2 i d)) (nextSum a q l (ix2 i 0)) := by
  pointwise [lastOut]

/-! ## The whole from its tiles -/

section Parts

variable {w : ℕ} {α : Type}

/-- The tile of a row, and the row in its tile. -/
abbrev part (i : Fin 4096) : Fin 8 := ⟨i.val / 512, by omega⟩
abbrev within (i : Fin 4096) : Fin 512 := ⟨i.val % 512, Nat.mod_lt _ (by decide)⟩

theorem glue_at (x : Fin 8 → (Tile w).Idx → α) (i : Fin 4096) (d : Fin w) : glue x (ix2 i d) = x (part i) (ix2 (within i) d) :=
  congrArg (x (part i)) (by funext a; match a with | ⟨0, _⟩ => rfl | ⟨1, _⟩ => rfl)
theorem tileOf_at (o : (Full w).Idx → α) (i : Fin 4096) (d : Fin w) : tileOf o (part i) (ix2 (within i) d) = o (ix2 i d) :=
  congrArg o (by
    funext a
    match a with
    | ⟨0, _⟩ => exact Fin.ext (by show 512 * (i.val / 512) + i.val % 512 = i.val; omega)
    | ⟨1, _⟩ => rfl)
theorem wt_tile {n : ℕ} (q : (Full 256).Idx → EReal) (a : (⟨2, ![n, 256]⟩ : Shape).Idx → EReal) (i : Fin 4096) (j : Fin n) :
    wt (tileOf q (part i)) a (within i) j = wt q a i j := by
  simp only [wt, tileOf_at]

end Parts

/-! ## The sums of a device -/

variable (m : (ℓ : Loc nD τ sig) → Buf (Elt Ideal) ℓ) (ρ : Dev nD → PrngReg)

/-- Row `r` of the chunk of hop `j`. -/
abbrev chunkRow (j : Fin 12) (r : Fin 1024) : Fin 4096 := ⟨1024 * (j.val % 4) + r.val, by omega⟩

theorem chunk_at (c : Dev nD) (kv : Bool) (j : Fin 12) (r : Fin 1024) (d : Fin 256) :
    (chunk m ρ c kv j : S1024x256.Idx → EReal) (ix2 r d) = (rnd m ρ c kv : S4096x256.Idx → EReal) (ix2 (chunkRow j r) d) :=
  congrArg (rnd m ρ c kv : S4096x256.Idx → EReal) (by
    funext a
    match a with
    | ⟨0, _⟩ => exact Fin.ext (by show 1024 * (j.val % 4) + 1 * r.val = 1024 * (j.val % 4) + r.val; rw [Nat.one_mul])
    | ⟨1, _⟩ => exact Fin.ext (by show 0 + 1 * d.val = d.val; omega))

/-- The weight of key row `j` of device `b` for query row `i` of device `c`. -/
def weightOf (c b : Dev nD) (i j : Fin 4096) : EReal := wt (qb m ρ c) (rnd m ρ b true) i j
/-- The same weight times the value. -/
def termOf (c b : Dev nD) (i : Fin 4096) (d : Fin 256) (j : Fin 4096) : EReal :=
  weightOf m ρ c b i j * (rnd m ρ b false : S4096x256.Idx → EReal) (ix2 j d)

theorem wt_chunk (c b : Dev nD) (j : Fin 12) (i : Fin 4096) (r : Fin 1024) :
    wt (qb m ρ c) (chunk m ρ b true j) i r = weightOf m ρ c b i (chunkRow j r) := by
  simp only [wt, weightOf, chunk_at]

/-- The own rows' terms and those of `n` hops. -/
def upTo (c : Dev nD) (g : Dev nD → Fin 4096 → EReal) (n : ℕ) : EReal :=
  ∑ j : Fin 4096, g c j + ∑ h ∈ Finset.range n, ∑ r : Fin 1024, g (back ((hop h).val / 4 + 1) c) (chunkRow (hop h) r)

theorem upTo_zero (c : Dev nD) (g : Dev nD → Fin 4096 → EReal) : upTo c g 0 = ∑ j : Fin 4096, g c j := by
  rw [upTo, Finset.sum_range_zero, add_zero]
theorem upTo_succ (c : Dev nD) (g : Dev nD → Fin 4096 → EReal) (n : ℕ) :
    upTo c g (n + 1) = upTo c g n + ∑ r : Fin 1024, g (back ((hop n).val / 4 + 1) c) (chunkRow (hop n) r) := by
  rw [upTo, upTo, Finset.sum_range_succ, add_assoc]

theorem acc_out (c : Dev nD) (i : Fin 4096) (d : Fin 256) (n : ℕ) :
    ((acc m ρ c n).1 : S4096x256.Idx → EReal) (ix2 i d) = upTo c (fun b => termOf m ρ c b i d) n := by
  induction n with
  | zero =>
    have e : (acc m ρ c 0).1 = glue fun k => firstOut (rnd m ρ c true) (rnd m ρ c false) (tileOf (qb m ρ c) k) := rfl
    rw [upTo_zero, e, glue_at, firstOut_at]
    simp only [wt_tile]
    rfl
  | succ n ih =>
    have e : (acc m ρ c (n + 1)).1 = glue fun k =>
        nextOut (landed m ρ c true (hop n)) (landed m ρ c false (hop n)) (tileOf (qb m ρ c) k) (tileOf (acc m ρ c n).1 k) := rfl
    rw [upTo_succ, ← ih, e, glue_at, nextOut_at]
    simp only [wt_tile, tileOf_at, wt_chunk, chunk_at]
    rfl

theorem acc_sum (c : Dev nD) (i : Fin 4096) (u : Fin 1) (n : ℕ) :
    ((acc m ρ c n).2 : S4096x1.Idx → EReal) (ix2 i u) = upTo c (fun b => weightOf m ρ c b i) n := by
  induction n with
  | zero =>
    have e : (acc m ρ c 0).2 = glue fun k => firstSum (rnd m ρ c true) (tileOf (qb m ρ c) k) := rfl
    rw [upTo_zero, e, glue_at, firstSum_at]
    simp only [wt_tile]
    rfl
  | succ n ih =>
    have e : (acc m ρ c (n + 1)).2 = glue fun k =>
        shapeCast S512x1 (nextSum (landed m ρ c true (hop n)) (tileOf (qb m ρ c) k) (tileOf (acc m ρ c n).2 k)) shapeCasts_S512x1_S512x1 := rfl
    rw [upTo_succ, ← ih, e, glue_at, recast_at, nextSum_at]
    simp only [wt_tile, tileOf_at, wt_chunk]

theorem outAt_upTo (c : Dev nD) (i : Fin 4096) (d : Fin 256) :
    (outAt m ρ c : S4096x256.Idx → EReal) (ix2 i d)
      = Ideal.div (upTo c (fun b => termOf m ρ c b i d) 12) (upTo c (fun b => weightOf m ρ c b i) 12) := by
  have e : hop 11 = 11 := rfl
  rw [outAt, glue_at, lastOut_at, nextOut_at, nextSum_at, upTo_succ _ _ 11, upTo_succ _ _ 11, ← acc_out, ← acc_sum m ρ c i 0, e]
  simp only [wt_tile, tileOf_at, wt_chunk, chunk_at]
  rfl

/-! ## All the rows -/

/-- The rows of a device, chunk by chunk. -/
theorem sum_chunks (g : Fin 4096 → EReal) :
    ∑ j : Fin 4096, g j = ∑ t : Fin 4, ∑ r : Fin 1024, g ⟨1024 * t.val + r.val, by omega⟩ := by
  rw [← Fintype.sum_prod_type' (fun (t : Fin 4) (r : Fin 1024) => g ⟨1024 * t.val + r.val, by omega⟩)]
  refine (Equiv.sum_comp (finProdFinEquiv (m := 4) (n := 1024)) g).symm.trans (Finset.sum_congr rfl fun x _ => congrArg g (Fin.ext ?_))
  show x.2.val + 1024 * x.1.val = 1024 * x.1.val + x.2.val
  omega

/-- After twelve hops the rows of every device are in. -/
theorem upTo_all (c : Dev nD) (g : Dev nD → Fin 4096 → EReal) : upTo c g 12 = ∑ b : Dev nD, ∑ j : Fin 4096, g b j := by
  have h (n : ℕ) (hn : n < 3) : ∑ t ∈ Finset.range 4, ∑ r : Fin 1024, g (back ((hop (4 * n + t)).val / 4 + 1) c) (chunkRow (hop (4 * n + t)) r)
      = ∑ j : Fin 4096, g (back (n + 1) c) j := by
    rw [sum_chunks, Finset.sum_range]
    refine Finset.sum_congr rfl fun t _ => Finset.sum_congr rfl fun r _ => ?_
    have e1 : (hop (4 * n + t.val)).val / 4 + 1 = n + 1 := by show (4 * n + t.val) % 12 / 4 + 1 = n + 1; omega
    have e2 : chunkRow (hop (4 * n + t.val)) r = ⟨1024 * t.val + r.val, by omega⟩ :=
      Fin.ext (by show 1024 * ((4 * n + t.val) % 12 % 4) + r.val = 1024 * t.val + r.val; omega)
    rw [e1, e2]
  have h0 := h 0 (by decide)
  have h1 := h 1 (by decide)
  have h2 := h 2 (by decide)
  rw [upTo]
  have split (f : ℕ → EReal) : ∑ h ∈ Finset.range 12, f h
      = ∑ t ∈ Finset.range 4, f t + ∑ t ∈ Finset.range 4, f (4 + t) + ∑ t ∈ Finset.range 4, f (4 + 4 + t) :=
    (Finset.sum_range_add f (4 + 4) 4).trans (congrArg (· + _) (Finset.sum_range_add f 4 4))
  rw [split]
  simp only [Nat.mul_zero, Nat.zero_add] at h0
  simp only [show 4 * 1 = 4 from rfl] at h1
  simp only [show 4 * 2 = 4 + 4 from rfl] at h2
  rw [h0, h1, h2]
  generalize hs : (fun b : Dev nD => ∑ j : Fin 4096, g b j) = s
  have hs' (b : Dev nD) : ∑ j : Fin 4096, g b j = s b := congrFun hs b
  simp only [hs']
  have hsum : ∑ b : Dev nD, s b = s 0 + s 1 + s 2 + s 3 := Fin.sum_univ_four s
  rw [hsum]
  fin_cases c
  · show s 0 + (s 3 + s 2 + s 1) = _; abel
  · show s 1 + (s 0 + s 3 + s 2) = _; abel
  · show s 2 + (s 1 + s 0 + s 3) = _; abel
  · show s 3 + (s 2 + s 1 + s 0) = _; abel

theorem outAt_eq (c : Dev nD) (i : Fin 4096) (d : Fin 256) :
    (outAt m ρ c : S4096x256.Idx → EReal) (ix2 i d)
      = Ideal.div (∑ b : Dev nD, ∑ j : Fin 4096, termOf m ρ c b i d j) (∑ b : Dev nD, ∑ j : Fin 4096, weightOf m ρ c b i j) := by
  rw [outAt_upTo, upTo_all, upTo_all]

end Cert.KernelIdeal.Ring

end
-- ==== Proof.Softmax.lean ====
/-
  The mathematics: a softmax of real scores does not change when a number is taken from every score, and dividing
  the weighted sum at the end is dividing every weight.
-/
module

public import Idealize.ShloMosaic.PureOps.Ideal
public import Idealize.ShloMosaic.Lib.IdealHost
public import Mathlib.Analysis.SpecialFunctions.Pow.Real

@[expose] public section

noncomputable section

namespace Cert.Softmax

open Idealize.ShloMosaic

variable {ι : Type} [Fintype ι]

/-- A sum of reals is the real sum. -/
theorem sum_real (f : ι → ℝ) : ∑ i, (f i : EReal) = ((∑ i, f i : ℝ) : EReal) :=
  (map_sum (⟨⟨Real.toEReal, EReal.coe_zero⟩, EReal.coe_add⟩ : ℝ →+ EReal) f Finset.univ).symm

/-- A nonnegative real factor enters a sum of extended reals. -/
theorem sum_scaled {r : ℝ} (hr : 0 ≤ r) (f : ι → EReal) : (∑ i, f i) * (r : EReal) = ∑ i, f i * (r : EReal) :=
  map_sum (⟨⟨fun x => x * (r : EReal), zero_mul _⟩,
    fun x y => EReal.right_distrib_of_nonneg_of_ne_top (EReal.coe_nonneg.mpr hr) (EReal.coe_ne_top r) x y⟩ : EReal →+ EReal) f Finset.univ

/-- The greatest of finitely many reals is a real. -/
theorem max_real [Nonempty ι] (t : ι → ℝ) : ∃ M : ℝ, Finset.univ.fold max ⊥ (fun i => (t i : EReal)) = M := by
  have hs : ∀ s : Finset ι, (s.fold max ⊥ (fun i => (t i : EReal)) = ⊥ ∧ s = ∅) ∨ ∃ M : ℝ, s.fold max ⊥ (fun i => (t i : EReal)) = M := by
    classical
    intro s
    induction s using Finset.induction_on with
    | empty => exact .inl ⟨rfl, rfl⟩
    | insert a s ha ih =>
      rw [Finset.fold_insert ha]
      rcases ih with ⟨h, -⟩ | ⟨M, h⟩
      · exact .inr ⟨t a, by rw [h]; exact max_eq_left bot_le⟩
      · exact .inr ⟨max (t a) M, by rw [h]; exact (EReal.coe_strictMono.monotone.map_max).symm⟩
  rcases hs Finset.univ with ⟨-, h⟩ | h
  · exact absurd h Finset.univ_nonempty.ne_empty
  · exact h

/-- Weights `w` divided by their sum. -/
theorem div_sum [Nonempty ι] {w : ι → ℝ} (hw : ∀ i, 0 < w i) (x : EReal) :
    Ideal.div x (∑ i, (w i : EReal)) = x * ((1 / ∑ i, w i : ℝ) : EReal) := by
  rw [sum_real, Ideal.div_coe (Finset.sum_pos (fun i _ => hw i) Finset.univ_nonempty).ne']

theorem weighted_by_sum [Nonempty ι] {w : ι → ℝ} (hw : ∀ i, 0 < w i) (x : ι → EReal) :
    Ideal.div (∑ i, (w i : EReal) * x i) (∑ i, (w i : EReal)) = ∑ i, ((w i / ∑ j, w j : ℝ) : EReal) * x i := by
  rw [div_sum hw, sum_scaled (one_div_nonneg.mpr (Finset.sum_nonneg fun i _ => (hw i).le))]
  refine Finset.sum_congr rfl fun i _ => ?_
  rw [mul_right_comm, ← EReal.coe_mul, mul_one_div]

/-- Taking a number from every score. -/
theorem shifted [Nonempty ι] (t : ι → ℝ) (M : ℝ) (i : ι) :
    Real.exp (t i - M) / ∑ j, Real.exp (t j - M) = Real.exp (t i) / ∑ j, Real.exp (t j) := by
  simp only [Real.exp_sub]
  rw [← Finset.sum_div, div_div_div_cancel_right₀ (Real.exp_ne_zero M)]

/-- Unnormalised exponentials, divided at the end, against the softmax with its maximum taken off. -/
theorem attention [Nonempty ι] (t : ι → ℝ) (x : ι → EReal) :
    Ideal.div (∑ i, ((Real.exp (t i) : ℝ) : EReal) * x i) (∑ i, ((Real.exp (t i) : ℝ) : EReal))
      = ∑ i, Ideal.div (Ideal.exp ((t i : EReal) - Finset.univ.fold max ⊥ (fun j => (t j : EReal))))
          (∑ j, Ideal.exp ((t j : EReal) - Finset.univ.fold max ⊥ (fun l => (t l : EReal)))) * x i := by
  obtain ⟨M, hM⟩ := max_real t
  rw [hM, weighted_by_sum fun i => Real.exp_pos _]
  refine Finset.sum_congr rfl fun i _ => ?_
  simp only [← EReal.coe_sub, Ideal.exp_coe]
  rw [div_sum fun i => Real.exp_pos _, ← EReal.coe_mul, mul_one_div, shifted]

/-- The kernel's power of two is the exponential of the score over sixteen. -/
theorem weight_exp (s : ℝ) : Ideal.exp2 ((s * (16 * Real.log 2)⁻¹ : ℝ) : EReal) = ((Real.exp (s / 16) : ℝ) : EReal) := by
  rw [Ideal.exp2_coe]
  show ((((2 : ℝ) ^ (s * (16 * Real.log 2)⁻¹) : ℝ)) : EReal) = _
  rw [Real.rpow_def_of_pos two_pos]
  have h : Real.log 2 ≠ 0 := (Real.log_pos one_lt_two).ne'
  congr 2
  field_simp

/-- A product of real rows is real. -/
theorem dot_real (x y : ι → ℝ) : ∑ e, (x e : EReal) * (y e : EReal) = ((∑ e, x e * y e : ℝ) : EReal) := by
  rw [← sum_real]
  exact Finset.sum_congr rfl fun e _ => (EReal.coe_mul _ _).symm

/-- The root of the row length. -/
theorem sqrt_256 : Ideal.sqrt (Ideal.ofBits .f32 0x43800000#32) = ((16 : ℝ) : EReal) := by
  have h : Ideal.ofBits .f32 0x43800000#32 = ((256 : ℝ) : EReal) := by
    simp [Ideal.ofBits, Ideal.ieee, -EReal.coe_mul]
    norm_num
  rw [h, Ideal.sqrt_coe, if_neg (by norm_num)]
  congr 1
  rw [show (256 : ℝ) = 16 ^ 2 by norm_num, Real.sqrt_sq (by norm_num)]

theorem ofBits_neg_inf : Ideal.ofBits .f32 0xFF800000#32 = ⊥ := by
  simp [Ideal.ofBits, Ideal.ieee]

end Cert.Softmax

end
-- ==== Proof.Reference.lean ====
/-
  What the reference computes, of real queries and keys: for each row the sum of the values, weighted by powers of two of the
  scaled scores, divided by the sum of those weights.
-/
module

public import proofs.«01_k».proof.Proof.Softmax
public import proofs.«01_k».proof.Proof.Gen.ReferenceIdeal.Run
public import Idealize.ShloMosaic.Lib.Pointwise

@[expose] public section

set_option maxRecDepth 65536

noncomputable section

namespace Cert.Attention

open Idealize.ShloMosaic
open Cert.ReferenceIdeal Cert.ReferenceIdeal.Gen

/-- The scores over the root of the row length. -/
def scores (q k : FVec Ideal S16384x256 .f32) : FVec Ideal S16384x16384 .f32 :=
  Host.divf (Host.dotGeneral dot_S16384x256_S256x16384_S16384x16384_1_0_0_1_n_n none q (transpose S256x16384 [1, 0] k transposes_S16384x256_S256x16384_1_0))
    (broadcastInDim S16384x16384 ![] bcast_S_S16384x16384 (id (Host.sqrt (constant S_ .f32 0x43800000#32))))
/-- A number for each row, in each of its places. -/
def perRow (x : FVec Ideal S16384 .f32) : FVec Ideal S16384x16384 .f32 :=
  broadcastInDim S16384x16384 ![0, 1] bcast_S16384x1_S16384x16384_0_1 (broadcastInDim S16384x1 ![0] bcast_S16384_S16384x1_0 x)
/-- The exponentials, each row's greatest score taken off. -/
def powers (q k : FVec Ideal S16384x256 .f32) : FVec Ideal S16384x16384 .f32 :=
  Host.exp (subf (scores q k) (perRow (Host.reduce FloatOps.maximumf (scores q k) (constant S_ .f32 0xFF800000#32) reducesTo_S16384x16384_S16384_d1 h_S_)))
/-- The reference's result. -/
def result (q k v : FVec Ideal S16384x256 .f32) : FVec Ideal S16384x256 .f32 :=
  Host.dotGeneral dot_S16384x16384_S16384x256_S16384x256_1_0_0_1_n_n none
    (Host.divf (powers q k) (perRow (Host.reduceAdd (powers q k) (constant S_ .f32 0x00000000#32) reducesTo_S16384x16384_S16384_d1 h_S_))) v

theorem scores_at (q k : FVec Ideal S16384x256 .f32) (i j : Fin 16384) :
    scores q k (ix2 i j) = Ideal.div (∑ e : Fin 256, q (ix2 i e) * k (ix2 j e)) ((16 : ℝ) : EReal) := by
  have h : (id (Host.sqrt (constant (F := Ideal) S_ .f32 0x43800000#32)) ix0 : EReal) = ((16 : ℝ) : EReal) := Cert.Softmax.sqrt_256
  pointwise [scores]
  rw [h]

theorem powers_at (q k : FVec Ideal S16384x256 .f32) (i j : Fin 16384) :
    powers q k (ix2 i j) = Ideal.exp (scores q k (ix2 i j) - Finset.univ.fold max ⊥ fun l : Fin 16384 => scores q k (ix2 i l)) := by
  pointwise [powers, perRow]
  rw [Cert.Softmax.ofBits_neg_inf]

theorem result_at (q k v : FVec Ideal S16384x256 .f32) (i : Fin 16384) (d : Fin 256) :
    result q k v (ix2 i d) = ∑ j : Fin 16384, Ideal.div (powers q k (ix2 i j)) (∑ l : Fin 16384, powers q k (ix2 i l)) * v (ix2 j d) := by
  pointwise [result, perRow]

/-! ## Real queries and keys -/

/-- The scale of the queries. -/
abbrev σ : ℝ := (16 * Real.log 2)⁻¹

/-- A power of two of the scaled score of query row `i` against key row `j`. -/
def weight (q k : FVec Ideal S16384x256 .f32) (i j : Fin 16384) : EReal :=
  Ideal.exp2 (∑ e : Fin 256, q (ix2 i e) * (σ : EReal) * k (ix2 j e))

/-- Every entry is a real. -/
def AllReal (x : FVec Ideal S16384x256 .f32) : Prop := ∀ i, ∃ r : ℝ, x i = r

theorem result_weights {q k : FVec Ideal S16384x256 .f32} (hq : AllReal q) (hk : AllReal k) (v : FVec Ideal S16384x256 .f32) (i : Fin 16384) (d : Fin 256) :
    result q k v (ix2 i d) = Ideal.div (∑ j, weight q k i j * v (ix2 j d)) (∑ j, weight q k i j) := by
  choose q' hq' using hq
  choose k' hk' using hk
  have hs (j : Fin 16384) : scores q k (ix2 i j) = (((∑ e : Fin 256, q' (ix2 i e) * k' (ix2 j e)) / 16 : ℝ) : EReal) := by
    rw [scores_at]
    simp only [hq', hk']
    rw [Cert.Softmax.dot_real, Ideal.div_coe (by norm_num), ← EReal.coe_mul, mul_one_div]
  have hw (j : Fin 16384) : weight q k i j = ((Real.exp ((∑ e : Fin 256, q' (ix2 i e) * k' (ix2 j e)) / 16) : ℝ) : EReal) := by
    unfold weight
    simp only [hq', hk', ← EReal.coe_mul]
    rw [Cert.Softmax.sum_real, ← Cert.Softmax.weight_exp, Finset.sum_mul]
    exact congrArg (fun x : ℝ => Ideal.exp2 (x : EReal)) (Finset.sum_congr rfl fun e _ => mul_right_comm _ _ _)
  rw [result_at]
  simp only [powers_at, hs, hw]
  exact (Cert.Softmax.attention _ _).symm

end Cert.Attention

end
-- ==== Proof.Finite.lean ====
/-
  The precondition: where it holds every entry of the queries and of the keys is a real.
-/
module

public import proofs.«01_k».proof.Proof.Gen.Pre_finite_qk_KernelIdeal
public import proofs.«01_k».proof.Proof.Gen.Pre_finite_qk_ReferenceIdeal
public import Idealize.ShloMosaic.Lib.Pointwise

@[expose] public section

noncomputable section

namespace Cert.Finite

open Idealize.ShloMosaic

/-- A number whose size is below +∞ is a real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  unfold Ideal.cmp at h
  induction x with
  | coe r => exact ⟨r, rfl⟩
  | top => simp at h
  | bot => simp at h

theorem both_of_and {a b : BitVec 1} (h : IntOp.andi a b = 1#1) : a = 1#1 ∧ b = 1#1 := by
  revert a b
  unfold IntOp.andi
  decide

/-- Read at an index. -/
theorem entries {q k v : FVec Ideal ⟨2, ![4096, 256]⟩ .f32} (h : Cert.Pre_finite_qk_KernelIdeal.fn (F := Ideal) q k v = fun _ => 1#1)
    (i : (⟨2, ![4096, 256]⟩ : Shape).Idx) : (∃ r : ℝ, q i = r) ∧ ∃ r : ℝ, k i = r := by
  have hi : IntOp.andi (Ideal.cmp .olt (max (q i) (-(q i))) (Ideal.ofBits .f32 0x7F800000#32))
      (Ideal.cmp .olt (max (k i) (-(k i))) (Ideal.ofBits .f32 0x7F800000#32)) = 1#1 := congrFun h i
  exact ⟨real_of_lt (both_of_and hi).1, real_of_lt (both_of_and hi).2⟩

end Cert.Finite

end
-- ==== Proof.Algebraic.lean ====
/-
  The kernel and the reference compute one array.
-/
module

public import proofs.«01_k».proof.Proof.Frames
public import proofs.«01_k».proof.Proof.Value
public import proofs.«01_k».proof.Proof.Reference
public import proofs.«01_k».proof.Proof.Finite
public import Idealize.ShloMosaic.Lib.Pipeline.ValueKit.Geometry

@[expose] public section

set_option maxRecDepth 65536

noncomputable section

namespace Cert.KernelIdeal.Ring

open Idealize.ShloMosaic Idealize.ShloMosaic.TcCoe Idealize.SL.Sem
open Cert.KernelIdeal.Gen

/-! ## The arrays a device starts and ends with -/

section Arrays

variable {F : FTy → Type} [FloatOps F] [Named F] (m : (ℓ : Loc nD τ sig) → Buf (Elt F) ℓ) (ρ : Dev nD → PrngReg)

/-- A block that is the array, at an index. -/
theorem emb_whole (i : S4096x256.Idx) :
    ((win0_0.blk (0 : Fin 1)).view.emb i : S4096x256.Idx) = i ∧ ((win0_1.blk (0 : Fin 1)).view.emb i : S4096x256.Idx) = i
      ∧ ((win0_2.blk (0 : Fin 1)).view.emb i : S4096x256.Idx) = i := by
  refine ⟨?_, ?_, ?_⟩ <;> funext a <;> apply Fin.ext <;> fin_cases a
  all_goals first
    | (show 0 * 4096 + 1 * (i 0).val = (i 0).val; omega)
    | (show 0 * 256 + 1 * (i 1).val = (i 1).val; omega)

theorem xq_eq (c : Dev nD) : xq m ρ c = m ((c : Thread nD τ).loc main_arg0) := funext fun i => congrArg (m ((c : Thread nD τ).loc main_arg0)) (emb_whole i).1
theorem xk_eq (c : Dev nD) : xk m ρ c = m ((c : Thread nD τ).loc main_arg1) := funext fun i => congrArg (m ((c : Thread nD τ).loc main_arg1)) (emb_whole i).2.1
theorem xv_eq (c : Dev nD) : xv m ρ c = m ((c : Thread nD τ).loc main_arg2) := funext fun i => congrArg (m ((c : Thread nD τ).loc main_arg2)) (emb_whole i).2.2

/-- The result's array ends as the last loop left it. -/
theorem finalA_out (c : Dev nD) : finalA m ρ c (3 : Fin 4) = outAt m ρ c := by
  refine (dats m ρ 0 c).arrAt_eq_of_after_last (3 : Fin 4) t₀ (by decide +kernel) _ fun j => ?_
  rfl

end Arrays

/-! ## Rows of the whole arrays -/

/-- Row `i` of device `c` in the whole. -/
abbrev rowOf (c : Dev nD) (i : Fin 4096) : Fin 16384 := ⟨c.val * 4096 + i.val, by have := c.isLt; have : nD = 4 := rfl; omega⟩

theorem block_at (x : FVec Ideal ⟨2, ![16384, 256]⟩ .f32) (c : Dev nD) (i : Fin 4096) (d : Fin 256) :
    Layout.block ⟨2, ![4096, 256]⟩ ⟨2, ![16384, 256]⟩ 0 4 c x (by decide) (ix2 i d) = x (ix2 (rowOf c i) d) :=
  congrArg x (by funext a; match a with | ⟨0, _⟩ => rfl | ⟨1, _⟩ => rfl)

/-- A sum over all rows, device by device. -/
theorem sum_rows (g : Fin 16384 → EReal) : ∑ b : Dev nD, ∑ j : Fin 4096, g (rowOf b j) = ∑ J : Fin 16384, g J := by
  rw [← Fintype.sum_prod_type' (fun (b : Dev nD) (j : Fin 4096) => g (rowOf b j))]
  refine Eq.trans (Finset.sum_congr rfl fun x _ => congrArg g (Fin.ext ?_)) (Equiv.sum_comp (finProdFinEquiv (m := 4) (n := 4096)) g)
  show x.1.val * 4096 + x.2.val = x.2.val + 4096 * x.1.val
  omega

theorem scaled_at (x : FVec Ideal S4096x256 .f32) (i : S4096x256.Idx) :
    (k0_pay138 (F := Ideal) x : FVec Ideal S4096x256 .bf16) i = x i * ((Cert.Attention.σ : ℝ) : EReal) := by
  pointwise [k0_pay138]
  exact congrArg (x i * ·) (IdealRules.named_const.ideal_named_scalar _ _ _ _ rfl)
theorem keys_at (x : FVec Ideal S4096x256 .f32) (i : S4096x256.Idx) : (k0_pay139 (F := Ideal) x : FVec Ideal S4096x256 .bf16) i = x i := by
  pointwise [k0_pay139]
theorem values_at (x : FVec Ideal S4096x256 .f32) (i : S4096x256.Idx) : (k0_pay140 (F := Ideal) x : FVec Ideal S4096x256 .bf16) i = x i := by
  pointwise [k0_pay140]

/-! ## One array -/

section One

variable (m : (ℓ : Loc nD τ sig) → Buf (Elt Ideal) ℓ) (ρ : Dev nD → PrngReg) (q k v : FVec Ideal ⟨2, ![16384, 256]⟩ .f32)

/-- Every device's arguments are its blocks of the whole arrays. -/
def Cut : Prop := ∀ c : Dev nD,
  m ((c.tc : Thread nD τ).loc main_arg0) = Layout.block ⟨2, ![4096, 256]⟩ ⟨2, ![16384, 256]⟩ 0 4 c q
  ∧ m ((c.tc : Thread nD τ).loc main_arg1) = Layout.block ⟨2, ![4096, 256]⟩ ⟨2, ![16384, 256]⟩ 0 4 c k
  ∧ m ((c.tc : Thread nD τ).loc main_arg2) = Layout.block ⟨2, ![4096, 256]⟩ ⟨2, ![16384, 256]⟩ 0 4 c v

variable {m q k v} (h : Cut m q k v)
include h

theorem qb_at (c : Dev nD) (i : Fin 4096) (e : Fin 256) :
    (qb m ρ c : S4096x256.Idx → EReal) (ix2 i e) = q (ix2 (rowOf c i) e) * ((Cert.Attention.σ : ℝ) : EReal) := by
  rw [qb, scaled_at, xq_eq, (h c).1]
  exact congrArg (· * _) (block_at q c i e)
theorem keyRow_at (b : Dev nD) (j : Fin 4096) (e : Fin 256) : (rnd m ρ b true : S4096x256.Idx → EReal) (ix2 j e) = k (ix2 (rowOf b j) e) := by
  rw [rnd, keys_at, xk_eq, (h b).2.1]
  exact block_at k b j e
theorem valueRow_at (b : Dev nD) (j : Fin 4096) (d : Fin 256) : (rnd m ρ b false : S4096x256.Idx → EReal) (ix2 j d) = v (ix2 (rowOf b j) d) := by
  rw [rnd, values_at, xv_eq, (h b).2.2]
  exact block_at v b j d

theorem weightOf_eq (c b : Dev nD) (i j : Fin 4096) : weightOf m ρ c b i j = Cert.Attention.weight q k (rowOf c i) (rowOf b j) := by
  unfold weightOf wt Cert.Attention.weight
  simp only [qb_at ρ h, keyRow_at ρ h]

theorem termOf_eq (c b : Dev nD) (i : Fin 4096) (d : Fin 256) (j : Fin 4096) :
    termOf m ρ c b i d j = Cert.Attention.weight q k (rowOf c i) (rowOf b j) * v (ix2 (rowOf b j) d) := by
  rw [termOf, weightOf_eq ρ h, valueRow_at ρ h]

/-- The kernel's result at an entry. -/
theorem outAt_entry (hq : Cert.Attention.AllReal q) (hk : Cert.Attention.AllReal k) (c : Dev nD) (i : Fin 4096) (d : Fin 256) :
    (outAt m ρ c : S4096x256.Idx → EReal) (ix2 i d) = Cert.Attention.result q k v (ix2 (rowOf c i) d) := by
  rw [outAt_eq, Cert.Attention.result_weights hq hk]
  simp only [termOf_eq ρ h, weightOf_eq ρ h]
  rw [sum_rows fun J => Cert.Attention.weight q k (rowOf c i) J * v (ix2 J d), sum_rows fun J => Cert.Attention.weight q k (rowOf c i) J]

/-- The kernel's result is the device's block of the reference's. -/
theorem outAt_block (hq : Cert.Attention.AllReal q) (hk : Cert.Attention.AllReal k) (c : Dev nD) :
    outAt m ρ c = Layout.block ⟨2, ![4096, 256]⟩ ⟨2, ![16384, 256]⟩ 0 4 c (Cert.Attention.result q k v) := by
  funext x
  have e : x = ix2 (n0 := 4096) (n1 := 256) (x 0) (x 1) := eq_ix2 x
  rw [e]
  exact (outAt_entry ρ h hq hk c (x 0) (x 1)).trans (block_at (Cert.Attention.result q k v) c (x 0) (x 1)).symm

omit h in
/-- Every row is a device's. -/
theorem exists_row (I : (⟨2, ![16384, 256]⟩ : Shape).Idx) : ∃ (c : Dev nD) (i : Fin 4096), I = ix2 (rowOf c i) (I 1) := by
  have hI : (I 0).val < 16384 := (I 0).isLt
  refine ⟨⟨(I 0).val / 4096, by show _ < 4; omega⟩, ⟨(I 0).val % 4096, Nat.mod_lt _ (by decide)⟩, ?_⟩
  refine (eq_ix2 I).trans (congrArg (fun r : Fin 16384 => (ix2 r (I 1) : (⟨2, ![16384, 256]⟩ : Shape).Idx)) (Fin.ext ?_))
  show (I 0).val = (I 0).val / 4096 * 4096 + (I 0).val % 4096
  omega

theorem reals (hp : Cert.Pre_KernelIdeal_finite_qk_KernelIdeal m) : Cert.Attention.AllReal q ∧ Cert.Attention.AllReal k := by
  refine ⟨fun I => ?_, fun I => ?_⟩ <;> obtain ⟨c, i, hI⟩ := exists_row I <;> rw [hI]
  · obtain ⟨r, hr⟩ := (Cert.Finite.entries (hp c) (ix2 i (I 1))).1
    rw [(h c).1] at hr
    exact ⟨r, (block_at q c i (I 1)).symm.trans hr⟩
  · obtain ⟨r, hr⟩ := (Cert.Finite.entries (hp c) (ix2 i (I 1))).2
    rw [(h c).2.1] at hr
    exact ⟨r, (block_at k c i (I 1)).symm.trans hr⟩

end One

theorem algebraic : Cert.algebraic_KernelIdeal_ReferenceIdeal_pre_finite_qk_KernelIdeal := by
  intro m ρ m' ρ' hp h
  have hcut : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) := h
  obtain ⟨hq, hk⟩ := reals hcut hp
  refine ⟨Cert.Attention.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run defs _ _).mono (fun r hr c => ⟨?_, ?_, ?_, ?_⟩) (run_main m ρ)
    · exact (hr.1 c (3 : Fin 4)).trans ((finalA_out m ρ c).trans (outAt_block ρ hcut hq hk c))
    · exact (hr.1 c (0 : Fin 4)).trans (finalA_q m ρ c)
    · exact (hr.1 c (1 : Fin 4)).trans (finalA_k m ρ c)
    · exact (hr.1 c (2 : Fin 4)).trans (finalA_v m ρ c)
  · exact (θ_run Cert.ReferenceIdeal.defs _ _).mono (fun r hr => ⟨(hr 0).1, (hr 0).2⟩) (Cert.ReferenceIdeal.Value.run m' ρ')

end Cert.KernelIdeal.Ring

end
-- ==== Proof.lean ====
/-
  The claim, from the run of the kernel (Proof/Run.lean) and what it computes (Proof/Algebraic.lean).
-/
module

public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_qk_KernelIdeal.Gen.facts, Cert.Pre_finite_qk_ReferenceIdeal.Gen.facts,
  Cert.KernelIdeal.Ring.frame_kernel, Cert.KernelIdeal.Ring.frame_kernelIdeal, fun m g _ => Cert.KernelIdeal.Ring.frame_kernelIdeal m g trivial,
  Cert.KernelIdeal.Ring.frame_reference, fun m g _ => Cert.KernelIdeal.Ring.frame_reference m g trivial,
  Cert.KernelIdeal.Ring.preserves, Cert.KernelIdeal.Ring.algebraic⟩

end Cert.Proof

end
